-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_v199) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x384x18944 : Shape := ⟨3, ![4, 384, 18944]⟩
abbrev S9472x3584 : Shape := ⟨2, ![9472, 3584]⟩
abbrev S3584x16 : Shape := ⟨2, ![3584, 16]⟩
abbrev S1184x28672 : Shape := ⟨2, ![1184, 28672]⟩
abbrev S1536x18944 : Shape := ⟨2, ![1536, 18944]⟩
abbrev S3584x8 : Shape := ⟨2, ![3584, 8]⟩
abbrev S_ : Shape := ⟨0, ![]⟩
abbrev S8x3584 : Shape := ⟨2, ![8, 3584]⟩
abbrev S1536x3584 : Shape := ⟨2, ![1536, 3584]⟩
abbrev S1536x512 : Shape := ⟨2, ![1536, 512]⟩
abbrev S256x512 : Shape := ⟨2, ![256, 512]⟩
abbrev S8x512 : Shape := ⟨2, ![8, 512]⟩
abbrev S256x256 : Shape := ⟨2, ![256, 256]⟩
abbrev S8x256 : Shape := ⟨2, ![8, 256]⟩
abbrev S8x256x1 : Shape := ⟨3, ![8, 256, 1]⟩
abbrev S512x256 : Shape := ⟨2, ![512, 256]⟩
abbrev S1536x256 : Shape := ⟨2, ![1536, 256]⟩
abbrev S1184x28x8x128 : Shape := ⟨4, ![1184, 28, 8, 128]⟩
abbrev S32x4x8x128 : Shape := ⟨4, ![32, 4, 8, 128]⟩
abbrev S32x1x8x128 : Shape := ⟨4, ![32, 1, 8, 128]⟩
abbrev S32x8x128 : Shape := ⟨3, ![32, 8, 128]⟩
abbrev S256x128 : Shape := ⟨2, ![256, 128]⟩
abbrev S512x128 : Shape := ⟨2, ![512, 128]⟩
abbrev S4x384x3584 : Shape := ⟨3, ![4, 384, 3584]⟩

abbrev nBuf : Space → Nat
  | .hbm => 19
  | .vmem => 18
  | .smem => 0
  | _ => 0

abbrev bufTy : (tb : Table) → Fin (tcTables nBuf tb) → BufTy
  | .hbm, ⟨0, _⟩ => ⟨S4x384x18944, .bf16⟩
  | .hbm, ⟨1, _⟩ => ⟨S9472x3584, .i8⟩
  | .hbm, ⟨2, _⟩ => ⟨S3584x16, .i16⟩
  | .hbm, ⟨3, _⟩ => ⟨S1184x28672, .i32⟩
  | .hbm, ⟨4, _⟩ => ⟨S1536x18944, .bf16⟩
  | .hbm, ⟨5, _⟩ => ⟨S3584x16, .i32⟩
  | .hbm, ⟨6, _⟩ => ⟨S3584x8, .i32⟩
  | .hbm, ⟨7, _⟩ => ⟨S3584x8, .i32⟩
  | .hbm, ⟨8, _⟩ => ⟨S_, .i32⟩
  | .hbm, ⟨9, _⟩ => ⟨S3584x8, .i32⟩
  | .hbm, ⟨10, _⟩ => ⟨S3584x8, .i32⟩
  | .hbm, ⟨11, _⟩ => ⟨S3584x8, .i32⟩
  | .hbm, ⟨12, _⟩ => ⟨S8x3584, .i32⟩
  | .hbm, ⟨13, _⟩ => ⟨S1536x3584, .f32⟩
  | .hbm, ⟨14, _⟩ => ⟨S1184x28x8x128, .i32⟩
  | .hbm, ⟨15, _⟩ => ⟨S1536x3584, .bf16⟩
  | .hbm, ⟨16, _⟩ => ⟨S1536x3584, .f32⟩
  | .hbm, ⟨17, _⟩ => ⟨S4x384x3584, .bf16⟩
  | .hbm, ⟨18, _⟩ => ⟨S4x384x3584, .f32⟩
  | .local _ .vmem, ⟨0, _⟩ => ⟨S1536x512, .bf16⟩
  | .local _ .vmem, ⟨1, _⟩ => ⟨S1536x512, .bf16⟩
  | .local _ .vmem, ⟨2, _⟩ => ⟨S256x512, .i8⟩
  | .local _ .vmem, ⟨3, _⟩ => ⟨S256x512, .i8⟩
  | .local _ .vmem, ⟨4, _⟩ => ⟨S8x512, .i32⟩
  | .local _ .vmem, ⟨5, _⟩ => ⟨S8x512, .i32⟩
  | .local _ .vmem, ⟨6, _⟩ => ⟨S1536x512, .f32⟩
  | .local _ .vmem, ⟨7, _⟩ => ⟨S1536x512, .f32⟩
  | .local _ .vmem, ⟨8, _⟩ => ⟨S1536x512, .bf16⟩
  | .local _ .vmem, ⟨9, _⟩ => ⟨S1536x512, .bf16⟩
  | .local _ .vmem, ⟨10, _⟩ => ⟨S32x4x8x128, .i32⟩
  | .local _ .vmem, ⟨11, _⟩ => ⟨S32x4x8x128, .i32⟩
  | .local _ .vmem, ⟨12, _⟩ => ⟨S1536x512, .f32⟩
  | .local _ .vmem, ⟨13, _⟩ => ⟨S1536x512, .f32⟩
  | .local _ .vmem, ⟨14, _⟩ => ⟨S1536x512, .bf16⟩
  | .local _ .vmem, ⟨15, _⟩ => ⟨S1536x512, .bf16⟩
  | .local _ .vmem, ⟨16, _⟩ => ⟨S1536x512, .f32⟩
  | .local _ .vmem, ⟨17, _⟩ => ⟨S1536x512, .f32⟩
  | _, _ => ⟨S4x384x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![7, 37], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1536x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1536x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![7, 37], ![false, false]⟩

def k1_cond2 (i : grid1.Coords) : BitVec 1 :=
  let arg1 : BitVec 32 := BitVec.ofNat 32 (i 1).val
  let c36_i32 : BitVec 32 := 36#32
  let v35 : BitVec 1 := Scalar.cmpi .eq arg1 c36_i32
  let v36 : BitVec 32 := Scalar.extui v35
  let c0_i32_25 : BitVec 32 := 0#32
  let v37 : BitVec 1 := Scalar.cmpi .ne v36 c0_i32_25
  v37

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1536x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S32x4x8x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1536x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1536x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1536x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]
-- ==== ReferenceIdeal.lean ====
abbrev S4x384x18944 : Shape := ⟨3, ![4, 384, 18944]⟩
abbrev S9472x3584 : Shape := ⟨2, ![9472, 3584]⟩
abbrev S3584x16 : Shape := ⟨2, ![3584, 16]⟩
abbrev S1184x28672 : Shape := ⟨2, ![1184, 28672]⟩
abbrev S_ : Shape := ⟨0, ![]⟩
abbrev S3584x1 : Shape := ⟨2, ![3584, 1]⟩
abbrev S3584 : Shape := ⟨1, ![3584]⟩
abbrev S1x3584 : Shape := ⟨2, ![1, 3584]⟩
abbrev S4x384x9472 : Shape := ⟨3, ![4, 384, 9472]⟩
abbrev S4x384x3584 : Shape := ⟨3, ![4, 384, 3584]⟩
abbrev S1184x28x8x128 : Shape := ⟨4, ![1184, 28, 8, 128]⟩
abbrev S1184x8x28x128 : Shape := ⟨4, ![1184, 8, 28, 128]⟩
abbrev S9472x3584x2 : Shape := ⟨3, ![9472, 3584, 2]⟩
abbrev S9472x2x3584 : Shape := ⟨3, ![9472, 2, 3584]⟩
abbrev S18944x3584 : Shape := ⟨2, ![18944, 3584]⟩

abbrev nBuf : Space → Nat
  | .hbm => 264
  | .vmem => 0
  | .smem => 0
  | _ => 0

abbrev hbmTy0_0 (i : Nat) : BufTy := match i % 128 with
  | 0 => ⟨S4x384x18944, .bf16⟩
  | 1 => ⟨S9472x3584, .i8⟩
  | 2 => ⟨S3584x16, .i16⟩
  | 3 => ⟨S1184x28672, .i32⟩
  | 4 => ⟨S3584x16, .bf16⟩
  | 5 => ⟨S9472x3584, .i32⟩
  | 6 => ⟨S_, .i32⟩
  | 7 => ⟨S9472x3584, .i32⟩
  | 8 => ⟨S9472x3584, .i32⟩
  | 9 => ⟨S_, .i32⟩
  | 10 => ⟨S9472x3584, .i32⟩
  | 11 => ⟨S9472x3584, .i32⟩
  | 12 => ⟨S3584x1, .bf16⟩
  | 13 => ⟨S3584, .bf16⟩
  | 14 => ⟨S1x3584, .bf16⟩
  | 15 => ⟨S3584x1, .bf16⟩
  | 16 => ⟨S3584, .bf16⟩
  | 17 => ⟨S1x3584, .bf16⟩
  | 18 => ⟨S3584x1, .bf16⟩
  | 19 => ⟨S3584, .bf16⟩
  | 20 => ⟨S1x3584, .bf16⟩
  | 21 => ⟨S3584x1, .bf16⟩
  | 22 => ⟨S3584, .bf16⟩
  | 23 => ⟨S1x3584, .bf16⟩
  | 24 => ⟨S3584x1, .bf16⟩
  | 25 => ⟨S3584, .bf16⟩
  | 26 => ⟨S1x3584, .bf16⟩
  | 27 => ⟨S3584x1, .bf16⟩
  | 28 => ⟨S3584, .bf16⟩
  | 29 => ⟨S1x3584, .bf16⟩
  | 30 => ⟨S3584x1, .bf16⟩
  | 31 => ⟨S3584, .bf16⟩
  | 32 => ⟨S1x3584, .bf16⟩
  | 33 => ⟨S3584x1, .bf16⟩
  | 34 => ⟨S3584, .bf16⟩
  | 35 => ⟨S1x3584, .bf16⟩
  | 36 => ⟨S3584x1, .bf16⟩
  | 37 => ⟨S3584, .bf16⟩
  | 38 => ⟨S1x3584, .bf16⟩
  | 39 => ⟨S3584x1, .bf16⟩
  | 40 => ⟨S3584, .bf16⟩
  | 41 => ⟨S1x3584, .bf16⟩
  | 42 => ⟨S3584x1, .bf16⟩
  | 43 => ⟨S3584, .bf16⟩
  | 44 => ⟨S1x3584, .bf16⟩
  | 45 => ⟨S3584x1, .bf16⟩
  | 46 => ⟨S3584, .bf16⟩
  | 47 => ⟨S1x3584, .bf16⟩
  | 48 => ⟨S3584x1, .bf16⟩
  | 49 => ⟨S3584, .bf16⟩
  | 50 => ⟨S1x3584, .bf16⟩
  | 51 => ⟨S3584x1, .bf16⟩
  | 52 => ⟨S3584, .bf16⟩
  | 53 => ⟨S1x3584, .bf16⟩
  | 54 => ⟨S3584x1, .bf16⟩
  | 55 => ⟨S3584, .bf16⟩
  | 56 => ⟨S1x3584, .bf16⟩
  | 57 => ⟨S3584x1, .bf16⟩
  | 58 => ⟨S3584, .bf16⟩
  | 59 => ⟨S1x3584, .bf16⟩
  | 60 => ⟨S_, .i32⟩
  | 61 => ⟨S9472x3584, .i32⟩
  | 62 => ⟨S9472x3584, .i32⟩
  | 63 => ⟨S_, .i32⟩
  | 64 => ⟨S9472x3584, .i32⟩
  | 65 => ⟨S9472x3584, .i32⟩
  | 66 => ⟨S_, .i32⟩
  | 67 => ⟨S9472x3584, .i32⟩
  | 68 => ⟨S9472x3584, .i1⟩
  | 69 => ⟨S9472x3584, .i1⟩
  | 70 => ⟨S9472x3584, .bf16⟩
  | 71 => ⟨S9472x3584, .bf16⟩
  | 72 => ⟨S9472x3584, .bf16⟩
  | 73 => ⟨S9472x3584, .bf16⟩
  | 74 => ⟨S9472x3584, .bf16⟩
  | 75 => ⟨S9472x3584, .bf16⟩
  | 76 => ⟨S9472x3584, .bf16⟩
  | 77 => ⟨S9472x3584, .bf16⟩
  | 78 => ⟨S9472x3584, .bf16⟩
  | 79 => ⟨S9472x3584, .bf16⟩
  | 80 => ⟨S9472x3584, .bf16⟩
  | 81 => ⟨S9472x3584, .bf16⟩
  | 82 => ⟨S9472x3584, .bf16⟩
  | 83 => ⟨S9472x3584, .bf16⟩
  | 84 => ⟨S9472x3584, .bf16⟩
  | 85 => ⟨S9472x3584, .bf16⟩
  | 86 => ⟨S9472x3584, .bf16⟩
  | 87 => ⟨S9472x3584, .bf16⟩
  | 88 => ⟨S9472x3584, .bf16⟩
  | 89 => ⟨S9472x3584, .bf16⟩
  | 90 => ⟨S9472x3584, .bf16⟩
  | 91 => ⟨S9472x3584, .bf16⟩
  | 92 => ⟨S9472x3584, .bf16⟩
  | 93 => ⟨S9472x3584, .bf16⟩
  | 94 => ⟨S_, .i32⟩
  | 95 => ⟨S9472x3584, .i32⟩
  | 96 => ⟨S9472x3584, .i32⟩
  | 97 => ⟨S_, .i32⟩
  | 98 => ⟨S9472x3584, .i32⟩
  | 99 => ⟨S9472x3584, .i32⟩
  | 100 => ⟨S_, .i32⟩
  | 101 => ⟨S9472x3584, .i32⟩
  | 102 => ⟨S9472x3584, .i1⟩
  | 103 => ⟨S9472x3584, .i1⟩
  | 104 => ⟨S9472x3584, .bf16⟩
  | 105 => ⟨S9472x3584, .bf16⟩
  | 106 => ⟨S9472x3584, .bf16⟩
  | 107 => ⟨S9472x3584, .bf16⟩
  | 108 => ⟨S_, .i32⟩
  | 109 => ⟨S9472x3584, .i32⟩
  | 110 => ⟨S9472x3584, .i32⟩
  | 111 => ⟨S_, .i32⟩
  | 112 => ⟨S9472x3584, .i32⟩
  | 113 => ⟨S9472x3584, .i32⟩
  | 114 => ⟨S_, .i32⟩
  | 115 => ⟨S9472x3584, .i32⟩
  | 116 => ⟨S9472x3584, .i1⟩
  | 117 => ⟨S9472x3584, .i1⟩
  | 118 => ⟨S9472x3584, .bf16⟩
  | 119 => ⟨S9472x3584, .bf16⟩
  | 120 => ⟨S_, .i32⟩
  | 121 => ⟨S9472x3584, .i32⟩
  | 122 => ⟨S9472x3584, .i32⟩
  | 123 => ⟨S_, .i32⟩
  | 124 => ⟨S9472x3584, .i32⟩
  | 125 => ⟨S9472x3584, .i32⟩
  | 126 => ⟨S_, .i32⟩
  | 127 => ⟨S9472x3584, .i32⟩
  | _ => ⟨S4x384x18944, .bf16⟩

abbrev hbmTy0_1 (i : Nat) : BufTy := match i % 128 with
  | 0 => ⟨S9472x3584, .i1⟩
  | 1 => ⟨S9472x3584, .i1⟩
  | 2 => ⟨S9472x3584, .bf16⟩
  | 3 => ⟨S3584x1, .bf16⟩
  | 4 => ⟨S3584, .bf16⟩
  | 5 => ⟨S1x3584, .bf16⟩
  | 6 => ⟨S3584x1, .bf16⟩
  | 7 => ⟨S3584, .bf16⟩
  | 8 => ⟨S1x3584, .bf16⟩
  | 9 => ⟨S3584x1, .bf16⟩
  | 10 => ⟨S3584, .bf16⟩
  | 11 => ⟨S1x3584, .bf16⟩
  | 12 => ⟨S3584x1, .bf16⟩
  | 13 => ⟨S3584, .bf16⟩
  | 14 => ⟨S1x3584, .bf16⟩
  | 15 => ⟨S3584x1, .bf16⟩
  | 16 => ⟨S3584, .bf16⟩
  | 17 => ⟨S1x3584, .bf16⟩
  | 18 => ⟨S3584x1, .bf16⟩
  | 19 => ⟨S3584, .bf16⟩
  | 20 => ⟨S1x3584, .bf16⟩
  | 21 => ⟨S3584x1, .bf16⟩
  | 22 => ⟨S3584, .bf16⟩
  | 23 => ⟨S1x3584, .bf16⟩
  | 24 => ⟨S3584x1, .bf16⟩
  | 25 => ⟨S3584, .bf16⟩
  | 26 => ⟨S1x3584, .bf16⟩
  | 27 => ⟨S3584x1, .bf16⟩
  | 28 => ⟨S3584, .bf16⟩
  | 29 => ⟨S1x3584, .bf16⟩
  | 30 => ⟨S3584x1, .bf16⟩
  | 31 => ⟨S3584, .bf16⟩
  | 32 => ⟨S1x3584, .bf16⟩
  | 33 => ⟨S3584x1, .bf16⟩
  | 34 => ⟨S3584, .bf16⟩
  | 35 => ⟨S1x3584, .bf16⟩
  | 36 => ⟨S3584x1, .bf16⟩
  | 37 => ⟨S3584, .bf16⟩
  | 38 => ⟨S1x3584, .bf16⟩
  | 39 => ⟨S3584x1, .bf16⟩
  | 40 => ⟨S3584, .bf16⟩
  | 41 => ⟨S1x3584, .bf16⟩
  | 42 => ⟨S3584x1, .bf16⟩
  | 43 => ⟨S3584, .bf16⟩
  | 44 => ⟨S1x3584, .bf16⟩
  | 45 => ⟨S3584x1, .bf16⟩
  | 46 => ⟨S3584, .bf16⟩
  | 47 => ⟨S1x3584, .bf16⟩
  | 48 => ⟨S3584x1, .bf16⟩
  | 49 => ⟨S3584, .bf16⟩
  | 50 => ⟨S1x3584, .bf16⟩
  | 51 => ⟨S_, .i32⟩
  | 52 => ⟨S9472x3584, .i32⟩
  | 53 => ⟨S9472x3584, .i32⟩
  | 54 => ⟨S_, .i32⟩
  | 55 => ⟨S9472x3584, .i32⟩
  | 56 => ⟨S9472x3584, .i32⟩
  | 57 => ⟨S_, .i32⟩
  | 58 => ⟨S9472x3584, .i32⟩
  | 59 => ⟨S9472x3584, .i1⟩
  | 60 => ⟨S9472x3584, .i1⟩
  | 61 => ⟨S9472x3584, .bf16⟩
  | 62 => ⟨S9472x3584, .bf16⟩
  | 63 => ⟨S9472x3584, .bf16⟩
  | 64 => ⟨S9472x3584, .bf16⟩
  | 65 => ⟨S9472x3584, .bf16⟩
  | 66 => ⟨S9472x3584, .bf16⟩
  | 67 => ⟨S9472x3584, .bf16⟩
  | 68 => ⟨S9472x3584, .bf16⟩
  | 69 => ⟨S9472x3584, .bf16⟩
  | 70 => ⟨S9472x3584, .bf16⟩
  | 71 => ⟨S9472x3584, .bf16⟩
  | 72 => ⟨S9472x3584, .bf16⟩
  | 73 => ⟨S9472x3584, .bf16⟩
  | 74 => ⟨S9472x3584, .bf16⟩
  | 75 => ⟨S9472x3584, .bf16⟩
  | 76 => ⟨S9472x3584, .bf16⟩
  | 77 => ⟨S9472x3584, .bf16⟩
  | 78 => ⟨S9472x3584, .bf16⟩
  | 79 => ⟨S9472x3584, .bf16⟩
  | 80 => ⟨S9472x3584, .bf16⟩
  | 81 => ⟨S9472x3584, .bf16⟩
  | 82 => ⟨S9472x3584, .bf16⟩
  | 83 => ⟨S9472x3584, .bf16⟩
  | 84 => ⟨S9472x3584, .bf16⟩
  | 85 => ⟨S_, .i32⟩
  | 86 => ⟨S9472x3584, .i32⟩
  | 87 => ⟨S9472x3584, .i32⟩
  | 88 => ⟨S_, .i32⟩
  | 89 => ⟨S9472x3584, .i32⟩
  | 90 => ⟨S9472x3584, .i32⟩
  | 91 => ⟨S_, .i32⟩
  | 92 => ⟨S9472x3584, .i32⟩
  | 93 => ⟨S9472x3584, .i1⟩
  | 94 => ⟨S9472x3584, .i1⟩
  | 95 => ⟨S9472x3584, .bf16⟩
  | 96 => ⟨S9472x3584, .bf16⟩
  | 97 => ⟨S9472x3584, .bf16⟩
  | 98 => ⟨S9472x3584, .bf16⟩
  | 99 => ⟨S_, .i32⟩
  | 100 => ⟨S9472x3584, .i32⟩
  | 101 => ⟨S9472x3584, .i32⟩
  | 102 => ⟨S_, .i32⟩
  | 103 => ⟨S9472x3584, .i32⟩
  | 104 => ⟨S9472x3584, .i32⟩
  | 105 => ⟨S_, .i32⟩
  | 106 => ⟨S9472x3584, .i32⟩
  | 107 => ⟨S9472x3584, .i1⟩
  | 108 => ⟨S9472x3584, .i1⟩
  | 109 => ⟨S9472x3584, .bf16⟩
  | 110 => ⟨S9472x3584, .bf16⟩
  | 111 => ⟨S_, .i32⟩
  | 112 => ⟨S9472x3584, .i32⟩
  | 113 => ⟨S9472x3584, .i32⟩
  | 114 => ⟨S_, .i32⟩
  | 115 => ⟨S9472x3584, .i32⟩
  | 116 => ⟨S9472x3584, .i32⟩
  | 117 => ⟨S_, .i32⟩
  | 118 => ⟨S9472x3584, .i32⟩
  | 119 => ⟨S9472x3584, .i1⟩
  | 120 => ⟨S9472x3584, .i1⟩
  | 121 => ⟨S9472x3584, .bf16⟩
  | 122 => ⟨S4x384x9472, .bf16⟩
  | 123 => ⟨S4x384x3584, .f32⟩
  | 124 => ⟨S4x384x9472, .bf16⟩
  | 125 => ⟨S4x384x3584, .f32⟩
  | 126 => ⟨S4x384x3584, .f32⟩
  | 127 => ⟨S1184x28x8x128, .i32⟩
  | _ => ⟨S4x384x18944, .bf16⟩

abbrev hbmTy0_2 (i : Nat) : BufTy := match i % 128 with
  | 0 => ⟨S1184x8x28x128, .i32⟩
  | 1 => ⟨S9472x3584, .i32⟩
  | 2 => ⟨S9472x3584x2, .bf16⟩
  | 3 => ⟨S9472x2x3584, .bf16⟩
  | 4 => ⟨S18944x3584, .bf16⟩
  | 5 => ⟨S4x384x3584, .f32⟩
  | 6 => ⟨S4x384x3584, .f32⟩
  | 7 => ⟨S4x384x3584, .bf16⟩
  | _ => ⟨S4x384x18944, .bf16⟩

abbrev hbmTy (i : Nat) : BufTy := match i / 128 with
  | 0 => hbmTy0_0 i
  | 1 => hbmTy0_1 i
  | 2 => hbmTy0_2 i
  | _ => ⟨S4x384x18944, .bf16⟩

abbrev bufTy : (tb : Table) → Fin (tcTables nBuf tb) → BufTy
  | .hbm, ⟨i, _⟩ => hbmTy i
  | _, _ => ⟨S4x384x18944, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_c_1 : Ref sig .tc := ⟨.hbm, 60, rfl⟩
abbrev main_v54 : Ref sig .tc := ⟨.hbm, 61, rfl⟩
abbrev main_v55 : Ref sig .tc := ⟨.hbm, 62, rfl⟩
abbrev main_c_2 : Ref sig .tc := ⟨.hbm, 63, rfl⟩
abbrev main_v56 : Ref sig .tc := ⟨.hbm, 64, rfl⟩
abbrev main_v57 : Ref sig .tc := ⟨.hbm, 65, rfl⟩
abbrev main_c_3 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_call0_v0 : Ref sig .tc := ⟨.hbm, 70, rfl⟩
abbrev main_call0_v1 : Ref sig .tc := ⟨.hbm, 71, rfl⟩
abbrev main_v61 : Ref sig .tc := ⟨.hbm, 72, rfl⟩
abbrev main_call1_v0 : Ref sig .tc := ⟨.hbm, 73, rfl⟩
abbrev main_call1_v1 : Ref sig .tc := ⟨.hbm, 74, rfl⟩
abbrev main_v62 : Ref sig .tc := ⟨.hbm, 75, rfl⟩
abbrev main_call2_v0 : Ref sig .tc := ⟨.hbm, 76, rfl⟩
abbrev main_call2_v1 : Ref sig .tc := ⟨.hbm, 77, rfl⟩
abbrev main_v63 : Ref sig .tc := ⟨.hbm, 78, rfl⟩
abbrev main_call3_v0 : Ref sig .tc := ⟨.hbm, 79, rfl⟩
abbrev main_call3_v1 : Ref sig .tc := ⟨.hbm, 80, rfl⟩
abbrev main_v64 : Ref sig .tc := ⟨.hbm, 81, rfl⟩
abbrev main_call4_v0 : Ref sig .tc := ⟨.hbm, 82, rfl⟩
abbrev main_call4_v1 : Ref sig .tc := ⟨.hbm, 83, rfl⟩
abbrev main_v65 : Ref sig .tc := ⟨.hbm, 84, rfl⟩
abbrev main_call5_v0 : Ref sig .tc := ⟨.hbm, 85, rfl⟩
abbrev main_call5_v1 : Ref sig .tc := ⟨.hbm, 86, rfl⟩
abbrev main_v66 : Ref sig .tc := ⟨.hbm, 87, rfl⟩
abbrev main_call6_v0 : Ref sig .tc := ⟨.hbm, 88, rfl⟩
abbrev main_call6_v1 : Ref sig .tc := ⟨.hbm, 89, rfl⟩
abbrev main_v67 : Ref sig .tc := ⟨.hbm, 90, rfl⟩
abbrev main_call7_v0 : Ref sig .tc := ⟨.hbm, 91, rfl⟩
abbrev main_call7_v1 : Ref sig .tc := ⟨.hbm, 92, rfl⟩
abbrev main_v68 : Ref sig .tc := ⟨.hbm, 93, rfl⟩
abbrev main_c_4 : Ref sig .tc := ⟨.hbm, 94, rfl⟩
abbrev main_v69 : Ref sig .tc := ⟨.hbm, 95, rfl⟩
abbrev main_v70 : Ref sig .tc := ⟨.hbm, 96, rfl⟩
abbrev main_c_5 : Ref sig .tc := ⟨.hbm, 97, rfl⟩
abbrev main_v71 : Ref sig .tc := ⟨.hbm, 98, rfl⟩
abbrev main_v72 : Ref sig .tc := ⟨.hbm, 99, rfl⟩
abbrev main_c_6 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_c_7 : Ref sig .tc := ⟨.hbm, 108, rfl⟩
abbrev main_v80 : Ref sig .tc := ⟨.hbm, 109, rfl⟩
abbrev main_v81 : Ref sig .tc := ⟨.hbm, 110, rfl⟩
abbrev main_c_8 : Ref sig .tc := ⟨.hbm, 111, rfl⟩
abbrev main_v82 : Ref sig .tc := ⟨.hbm, 112, rfl⟩
abbrev main_v83 : Ref sig .tc := ⟨.hbm, 113, rfl⟩
abbrev main_c_9 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_c_10 : Ref sig .tc := ⟨.hbm, 120, rfl⟩
abbrev main_v89 : Ref sig .tc := ⟨.hbm, 121, rfl⟩
abbrev main_v90 : Ref sig .tc := ⟨.hbm, 122, rfl⟩
abbrev main_c_11 : Ref sig .tc := ⟨.hbm, 123, rfl⟩
abbrev main_v91 : Ref sig .tc := ⟨.hbm, 124, rfl⟩
abbrev main_v92 : Ref sig .tc := ⟨.hbm, 125, rfl⟩
abbrev main_c_12 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_c_13 : Ref sig .tc := ⟨.hbm, 179, rfl⟩
abbrev main_v145 : Ref sig .tc := ⟨.hbm, 180, rfl⟩
abbrev main_v146 : Ref sig .tc := ⟨.hbm, 181, rfl⟩
abbrev main_c_14 : Ref sig .tc := ⟨.hbm, 182, rfl⟩
abbrev main_v147 : Ref sig .tc := ⟨.hbm, 183, rfl⟩
abbrev main_v148 : Ref sig .tc := ⟨.hbm, 184, rfl⟩
abbrev main_c_15 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_call15_v0 : Ref sig .tc := ⟨.hbm, 189, rfl⟩
abbrev main_call15_v1 : Ref sig .tc := ⟨.hbm, 190, rfl⟩
abbrev main_v152 : Ref sig .tc := ⟨.hbm, 191, rfl⟩
abbrev main_call16_v0 : Ref sig .tc := ⟨.hbm, 192, rfl⟩
abbrev main_call16_v1 : Ref sig .tc := ⟨.hbm, 193, rfl⟩
abbrev main_v153 : Ref sig .tc := ⟨.hbm, 194, rfl⟩
abbrev main_call17_v0 : Ref sig .tc := ⟨.hbm, 195, rfl⟩
abbrev main_call17_v1 : Ref sig .tc := ⟨.hbm, 196, rfl⟩
abbrev main_v154 : Ref sig .tc := ⟨.hbm, 197, rfl⟩
abbrev main_call18_v0 : Ref sig .tc := ⟨.hbm, 198, rfl⟩
abbrev main_call18_v1 : Ref sig .tc := ⟨.hbm, 199, rfl⟩
abbrev main_v155 : Ref sig .tc := ⟨.hbm, 200, rfl⟩
abbrev main_call19_v0 : Ref sig .tc := ⟨.hbm, 201, rfl⟩
abbrev main_call19_v1 : Ref sig .tc := ⟨.hbm, 202, rfl⟩
abbrev main_v156 : Ref sig .tc := ⟨.hbm, 203, rfl⟩
abbrev main_call20_v0 : Ref sig .tc := ⟨.hbm, 204, rfl⟩
abbrev main_call20_v1 : Ref sig .tc := ⟨.hbm, 205, rfl⟩
abbrev main_v157 : Ref sig .tc := ⟨.hbm, 206, rfl⟩
abbrev main_call21_v0 : Ref sig .tc := ⟨.hbm, 207, rfl⟩
abbrev main_call21_v1 : Ref sig .tc := ⟨.hbm, 208, rfl⟩
abbrev main_v158 : Ref sig .tc := ⟨.hbm, 209, rfl⟩
abbrev main_call22_v0 : Ref sig .tc := ⟨.hbm, 210, rfl⟩
abbrev main_call22_v1 : Ref sig .tc := ⟨.hbm, 211, rfl⟩
abbrev main_v159 : Ref sig .tc := ⟨.hbm, 212, rfl⟩
abbrev main_c_16 : Ref sig .tc := ⟨.hbm, 213, rfl⟩
abbrev main_v160 : Ref sig .tc := ⟨.hbm, 214, rfl⟩
abbrev main_v161 : Ref sig .tc := ⟨.hbm, 215, rfl⟩
abbrev main_c_17 : Ref sig .tc := ⟨.hbm, 216, rfl⟩
abbrev main_v162 : Ref sig .tc := ⟨.hbm, 217, rfl⟩
abbrev main_v163 : Ref sig .tc := ⟨.hbm, 218, rfl⟩
abbrev main_c_18 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_c_19 : Ref sig .tc := ⟨.hbm, 227, rfl⟩
abbrev main_v171 : Ref sig .tc := ⟨.hbm, 228, rfl⟩
abbrev main_v172 : Ref sig .tc := ⟨.hbm, 229, rfl⟩
abbrev main_c_20 : Ref sig .tc := ⟨.hbm, 230, rfl⟩
abbrev main_v173 : Ref sig .tc := ⟨.hbm, 231, rfl⟩
abbrev main_v174 : Ref sig .tc := ⟨.hbm, 232, rfl⟩
abbrev main_c_21 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_c_22 : Ref sig .tc := ⟨.hbm, 239, rfl⟩
abbrev main_v180 : Ref sig .tc := ⟨.hbm, 240, rfl⟩
abbrev main_v181 : Ref sig .tc := ⟨.hbm, 241, rfl⟩
abbrev main_c_23 : Ref sig .tc := ⟨.hbm, 242, rfl⟩
abbrev main_v182 : Ref sig .tc := ⟨.hbm, 243, rfl⟩
abbrev main_v183 : Ref sig .tc := ⟨.hbm, 244, rfl⟩
abbrev main_c_24 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩

abbrev nD : Nat := 1
abbrev τ : Topo := Topo.v7x

variable {F : FTy → Type} [FloatOps F]
-- ==== Proof.KernelRun.lean ====
module

public import proofs.«01_k».proof.Proof.Gen.KernelIdeal.Frame

@[expose] public section
set_option maxRecDepth 16384
noncomputable section
namespace Cert.KernelIdeal.Value
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every execution of the kernel's program ends, its two results at the last boundary's contents, its arguments unchanged
    and every counter at zero: the generated frame's launch, read at the result buffers as well. -/
theorem run : θ_run defs (onTc (τ := τ) (main (F := F))) ⟨m, fun _ => 0, ρ⟩ (fun r => (∀ c : Dev nD,
      r.2.mem ((c.tc : Thread nD τ).loc main_v11) = W5 m ρ c (Proc.devRef .tc main_v11)
      ∧ r.2.mem ((c.tc : Thread nD τ).loc main_v12) = W5 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v11 (by decide)), h c _ (mem_uc main_v12 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩), funext fun g => hz g (.inr (no_unscoped g.2))⟩)

end Cert.KernelIdeal.Value
-- ==== Proof.DenseBlock.lean ====
module

public import proofs.«01_k».proof.Proof.Gen.KernelIdeal.Frame
public import Idealize.ShloMosaic.Lib.Pipeline.Value
public import Idealize.ShloMosaic.Lib.Pipeline.ReadBack
public import Idealize.ShloMosaic.Lib.Tactic

@[expose] public section
set_option maxRecDepth 16384
noncomputable section
open Idealize.ShloMosaic Idealize.ShloMosaic.TcCoe Idealize.SL.Sem
namespace Cert.KernelIdeal.Value
open Cert.KernelIdeal Cert.KernelIdeal.Gen
variable {F : FTy → Type} [FloatOps F]

/-- Row tile `r` of a pair index plane fits in the plane. -/
theorem slices_tile (r : Fin 32) : S256x256.Slices ![8 * r.val, 0] S8x256 := by
  revert r; decide

/-- One row tile of the table lookup: eight rows of indices select rows of the table, column by column. -/
def tile (tab : IVec S8x256 32) (idx : IVec S256x256 32) (r : Fin 32) : IVec S8x256 32 :=
  let v : IVec S8x256 32 := extractStridedSlice S8x256 ![8 * r.val, 0] idx (slices_tile r)
  dynamicGather 0 tab (shapeCast S8x256 (shapeCast S8x256x1
    (select (cmpi .slt v (broadcast S8x256 0#32)) (addi v (broadcast S8x256 8#32)) v) shapeCasts_S8x256_S8x256x1)
    shapeCasts_S8x256x1_S8x256)

theorem concats_tiles (f : Fin 32 → IVec S8x256 32) :
    Shape.Concatenates ((List.ofFn fun n : Fin 32 => (⟨S8x256, f n⟩ : (s : Shape) × (s.Idx → BitVec 32))).map (·.1)) S256x256 0 :=
  concatenates_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S256x256_d0

/-- The table lookup of a whole pair index plane: its 32 row tiles stacked. -/
def pairs (tab : IVec S8x256 32) (idx : IVec S256x256 32) : IVec S256x256 32 :=
  concatenate S256x256 0 (List.ofFn fun r : Fin 32 => (⟨S8x256, tile tab idx r⟩ : (s : Shape) × (s.Idx → BitVec 32)))
    (concats_tiles (tile tab idx))

/-- The same lookup, its 32 tiles written out as the kernel's text has them. -/
theorem pairs_lit (tab : IVec S8x256 32) (idx : IVec S256x256 32) : pairs tab idx = concatenate S256x256 0
    [⟨S8x256, dynamicGather 0 tab (shapeCast S8x256 (shapeCast S8x256x1 (select (cmpi .slt (extractStridedSlice S8x256 ![0, 0] idx slices_S256x256_o0_0_S8x256) (broadcast S8x256 0#32)) (addi (extractStridedSlice S8x256 ![0, 0] idx slices_S256x256_o0_0_S8x256) (broadcast S8x256 8#32)) (extractStridedSlice S8x256 ![0, 0] idx slices_S256x256_o0_0_S8x256)) shapeCasts_S8x256_S8x256x1) shapeCasts_S8x256x1_S8x256)⟩,
     ⟨S8x256, dynamicGather 0 tab (shapeCast S8x256 (shapeCast S8x256x1 (select (cmpi .slt (extractStridedSlice S8x256 ![8, 0] idx slices_S256x256_o8_0_S8x256) (broadcast S8x256 0#32)) (addi (extractStridedSlice S8x256 ![8, 0] idx slices_S256x256_o8_0_S8x256) (broadcast S8x256 8#32)) (extractStridedSlice S8x256 ![8, 0] idx slices_S256x256_o8_0_S8x256)) shapeCasts_S8x256_S8x256x1) shapeCasts_S8x256x1_S8x256)⟩,
     ⟨S8x256, dynamicGather 0 tab (shapeCast S8x256 (shapeCast S8x256x1 (select (cmpi .slt (extractStridedSlice S8x256 ![16, 0] idx slices_S256x256_o16_0_S8x256) (broadcast S8x256 0#32)) (addi (extractStridedSlice S8x256 ![16, 0] idx slices_S256x256_o16_0_S8x256) (broadcast S8x256 8#32)) (extractStridedSlice S8x256 ![16, 0] idx slices_S256x256_o16_0_S8x256)) shapeCasts_S8x256_S8x256x1) shapeCasts_S8x256x1_S8x256)⟩,
     ⟨S8x256, dynamicGather 0 tab (shapeCast S8x256 (shapeCast S8x256x1 (select (cmpi .slt (extractStridedSlice S8x256 ![24, 0] idx slices_S256x256_o24_0_S8x256) (broadcast S8x256 0#32)) (addi (extractStridedSlice S8x256 ![24, 0] idx slices_S256x256_o24_0_S8x256) (broadcast S8x256 8#32)) (extractStridedSlice S8x256 ![24, 0] idx slices_S256x256_o24_0_S8x256)) shapeCasts_S8x256_S8x256x1) shapeCasts_S8x256x1_S8x256)⟩,
     ⟨S8x256, dynamicGather 0 tab (shapeCast S8x256 (shapeCast S8x256x1 (select (cmpi .slt (extractStridedSlice S8x256 ![32, 0] idx slices_S256x256_o32_0_S8x256) (broadcast S8x256 0#32)) (addi (extractStridedSlice S8x256 ![32, 0] idx slices_S256x256_o32_0_S8x256) (broadcast S8x256 8#32)) (extractStridedSlice S8x256 ![32, 0] idx slices_S256x256_o32_0_S8x256)) shapeCasts_S8x256_S8x256x1) shapeCasts_S8x256x1_S8x256)⟩,
     ⟨S8x256, dynamicGather 0 tab (shapeCast S8x256 (shapeCast S8x256x1 (select (cmpi .slt (extractStridedSlice S8x256 ![40, 0] idx slices_S256x256_o40_0_S8x256) (broadcast S8x256 0#32)) (addi (extractStridedSlice S8x256 ![40, 0] idx slices_S256x256_o40_0_S8x256) (broadcast S8x256 8#32)) (extractStridedSlice S8x256 ![40, 0] idx slices_S256x256_o40_0_S8x256)) shapeCasts_S8x256_S8x256x1) shapeCasts_S8x256x1_S8x256)⟩,
     ⟨S8x256, dynamicGather 0 tab (shapeCast S8x256 (shapeCast S8x256x1 (select (cmpi .slt (extractStridedSlice S8x256 ![48, 0] idx slices_S256x256_o48_0_S8x256) (broadcast S8x256 0#32)) (addi (extractStridedSlice S8x256 ![48, 0] idx slices_S256x256_o48_0_S8x256) (broadcast S8x256 8#32)) (extractStridedSlice S8x256 ![48, 0] idx slices_S256x256_o48_0_S8x256)) shapeCasts_S8x256_S8x256x1) shapeCasts_S8x256x1_S8x256)⟩,
     ⟨S8x256, dynamicGather 0 tab (shapeCast S8x256 (shapeCast S8x256x1 (select (cmpi .slt (extractStridedSlice S8x256 ![56, 0] idx slices_S256x256_o56_0_S8x256) (broadcast S8x256 0#32)) (addi (extractStridedSlice S8x256 ![56, 0] idx slices_S256x256_o56_0_S8x256) (broadcast S8x256 8#32)) (extractStridedSlice S8x256 ![56, 0] idx slices_S256x256_o56_0_S8x256)) shapeCasts_S8x256_S8x256x1) shapeCasts_S8x256x1_S8x256)⟩,
     ⟨S8x256, dynamicGather 0 tab (shapeCast S8x256 (shapeCast S8x256x1 (select (cmpi .slt (extractStridedSlice S8x256 ![64, 0] idx slices_S256x256_o64_0_S8x256) (broadcast S8x256 0#32)) (addi (extractStridedSlice S8x256 ![64, 0] idx slices_S256x256_o64_0_S8x256) (broadcast S8x256 8#32)) (extractStridedSlice S8x256 ![64, 0] idx slices_S256x256_o64_0_S8x256)) shapeCasts_S8x256_S8x256x1) shapeCasts_S8x256x1_S8x256)⟩,
     ⟨S8x256, dynamicGather 0 tab (shapeCast S8x256 (shapeCast S8x256x1 (select (cmpi .slt (extractStridedSlice S8x256 ![72, 0] idx slices_S256x256_o72_0_S8x256) (broadcast S8x256 0#32)) (addi (extractStridedSlice S8x256 ![72, 0] idx slices_S256x256_o72_0_S8x256) (broadcast S8x256 8#32)) (extractStridedSlice S8x256 ![72, 0] idx slices_S256x256_o72_0_S8x256)) shapeCasts_S8x256_S8x256x1) shapeCasts_S8x256x1_S8x256)⟩,
     ⟨S8x256, dynamicGather 0 tab (shapeCast S8x256 (shapeCast S8x256x1 (select (cmpi .slt (extractStridedSlice S8x256 ![80, 0] idx slices_S256x256_o80_0_S8x256) (broadcast S8x256 0#32)) (addi (extractStridedSlice S8x256 ![80, 0] idx slices_S256x256_o80_0_S8x256) (broadcast S8x256 8#32)) (extractStridedSlice S8x256 ![80, 0] idx slices_S256x256_o80_0_S8x256)) shapeCasts_S8x256_S8x256x1) shapeCasts_S8x256x1_S8x256)⟩,
     ⟨S8x256, dynamicGather 0 tab (shapeCast S8x256 (shapeCast S8x256x1 (select (cmpi .slt (extractStridedSlice S8x256 ![88, 0] idx slices_S256x256_o88_0_S8x256) (broadcast S8x256 0#32)) (addi (extractStridedSlice S8x256 ![88, 0] idx slices_S256x256_o88_0_S8x256) (broadcast S8x256 8#32)) (extractStridedSlice S8x256 ![88, 0] idx slices_S256x256_o88_0_S8x256)) shapeCasts_S8x256_S8x256x1) shapeCasts_S8x256x1_S8x256)⟩,
     ⟨S8x256, dynamicGather 0 tab (shapeCast S8x256 (shapeCast S8x256x1 (select (cmpi .slt (extractStridedSlice S8x256 ![96, 0] idx slices_S256x256_o96_0_S8x256) (broadcast S8x256 0#32)) (addi (extractStridedSlice S8x256 ![96, 0] idx slices_S256x256_o96_0_S8x256) (broadcast S8x256 8#32)) (extractStridedSlice S8x256 ![96, 0] idx slices_S256x256_o96_0_S8x256)) shapeCasts_S8x256_S8x256x1) shapeCasts_S8x256x1_S8x256)⟩,
     ⟨S8x256, dynamicGather 0 tab (shapeCast S8x256 (shapeCast S8x256x1 (select (cmpi .slt (extractStridedSlice S8x256 ![104, 0] idx slices_S256x256_o104_0_S8x256) (broadcast S8x256 0#32)) (addi (extractStridedSlice S8x256 ![104, 0] idx slices_S256x256_o104_0_S8x256) (broadcast S8x256 8#32)) (extractStridedSlice S8x256 ![104, 0] idx slices_S256x256_o104_0_S8x256)) shapeCasts_S8x256_S8x256x1) shapeCasts_S8x256x1_S8x256)⟩,
     ⟨S8x256, dynamicGather 0 tab (shapeCast S8x256 (shapeCast S8x256x1 (select (cmpi .slt (extractStridedSlice S8x256 ![112, 0] idx slices_S256x256_o112_0_S8x256) (broadcast S8x256 0#32)) (addi (extractStridedSlice S8x256 ![112, 0] idx slices_S256x256_o112_0_S8x256) (broadcast S8x256 8#32)) (extractStridedSlice S8x256 ![112, 0] idx slices_S256x256_o112_0_S8x256)) shapeCasts_S8x256_S8x256x1) shapeCasts_S8x256x1_S8x256)⟩,
     ⟨S8x256, dynamicGather 0 tab (shapeCast S8x256 (shapeCast S8x256x1 (select (cmpi .slt (extractStridedSlice S8x256 ![120, 0] idx slices_S256x256_o120_0_S8x256) (broadcast S8x256 0#32)) (addi (extractStridedSlice S8x256 ![120, 0] idx slices_S256x256_o120_0_S8x256) (broadcast S8x256 8#32)) (extractStridedSlice S8x256 ![120, 0] idx slices_S256x256_o120_0_S8x256)) shapeCasts_S8x256_S8x256x1) shapeCasts_S8x256x1_S8x256)⟩,
     ⟨S8x256, dynamicGather 0 tab (shapeCast S8x256 (shapeCast S8x256x1 (select (cmpi .slt (extractStridedSlice S8x256 ![128, 0] idx slices_S256x256_o128_0_S8x256) (broadcast S8x256 0#32)) (addi (extractStridedSlice S8x256 ![128, 0] idx slices_S256x256_o128_0_S8x256) (broadcast S8x256 8#32)) (extractStridedSlice S8x256 ![128, 0] idx slices_S256x256_o128_0_S8x256)) shapeCasts_S8x256_S8x256x1) shapeCasts_S8x256x1_S8x256)⟩,
     ⟨S8x256, dynamicGather 0 tab (shapeCast S8x256 (shapeCast S8x256x1 (select (cmpi .slt (extractStridedSlice S8x256 ![136, 0] idx slices_S256x256_o136_0_S8x256) (broadcast S8x256 0#32)) (addi (extractStridedSlice S8x256 ![136, 0] idx slices_S256x256_o136_0_S8x256) (broadcast S8x256 8#32)) (extractStridedSlice S8x256 ![136, 0] idx slices_S256x256_o136_0_S8x256)) shapeCasts_S8x256_S8x256x1) shapeCasts_S8x256x1_S8x256)⟩,
     ⟨S8x256, dynamicGather 0 tab (shapeCast S8x256 (shapeCast S8x256x1 (select (cmpi .slt (extractStridedSlice S8x256 ![144, 0] idx slices_S256x256_o144_0_S8x256) (broadcast S8x256 0#32)) (addi (extractStridedSlice S8x256 ![144, 0] idx slices_S256x256_o144_0_S8x256) (broadcast S8x256 8#32)) (extractStridedSlice S8x256 ![144, 0] idx slices_S256x256_o144_0_S8x256)) shapeCasts_S8x256_S8x256x1) shapeCasts_S8x256x1_S8x256)⟩,
     ⟨S8x256, dynamicGather 0 tab (shapeCast S8x256 (shapeCast S8x256x1 (select (cmpi .slt (extractStridedSlice S8x256 ![152, 0] idx slices_S256x256_o152_0_S8x256) (broadcast S8x256 0#32)) (addi (extractStridedSlice S8x256 ![152, 0] idx slices_S256x256_o152_0_S8x256) (broadcast S8x256 8#32)) (extractStridedSlice S8x256 ![152, 0] idx slices_S256x256_o152_0_S8x256)) shapeCasts_S8x256_S8x256x1) shapeCasts_S8x256x1_S8x256)⟩,
     ⟨S8x256, dynamicGather 0 tab (shapeCast S8x256 (shapeCast S8x256x1 (select (cmpi .slt (extractStridedSlice S8x256 ![160, 0] idx slices_S256x256_o160_0_S8x256) (broadcast S8x256 0#32)) (addi (extractStridedSlice S8x256 ![160, 0] idx slices_S256x256_o160_0_S8x256) (broadcast S8x256 8#32)) (extractStridedSlice S8x256 ![160, 0] idx slices_S256x256_o160_0_S8x256)) shapeCasts_S8x256_S8x256x1) shapeCasts_S8x256x1_S8x256)⟩,
     ⟨S8x256, dynamicGather 0 tab (shapeCast S8x256 (shapeCast S8x256x1 (select (cmpi .slt (extractStridedSlice S8x256 ![168, 0] idx slices_S256x256_o168_0_S8x256) (broadcast S8x256 0#32)) (addi (extractStridedSlice S8x256 ![168, 0] idx slices_S256x256_o168_0_S8x256) (broadcast S8x256 8#32)) (extractStridedSlice S8x256 ![168, 0] idx slices_S256x256_o168_0_S8x256)) shapeCasts_S8x256_S8x256x1) shapeCasts_S8x256x1_S8x256)⟩,
     ⟨S8x256, dynamicGather 0 tab (shapeCast S8x256 (shapeCast S8x256x1 (select (cmpi .slt (extractStridedSlice S8x256 ![176, 0] idx slices_S256x256_o176_0_S8x256) (broadcast S8x256 0#32)) (addi (extractStridedSlice S8x256 ![176, 0] idx slices_S256x256_o176_0_S8x256) (broadcast S8x256 8#32)) (extractStridedSlice S8x256 ![176, 0] idx slices_S256x256_o176_0_S8x256)) shapeCasts_S8x256_S8x256x1) shapeCasts_S8x256x1_S8x256)⟩,
     ⟨S8x256, dynamicGather 0 tab (shapeCast S8x256 (shapeCast S8x256x1 (select (cmpi .slt (extractStridedSlice S8x256 ![184, 0] idx slices_S256x256_o184_0_S8x256) (broadcast S8x256 0#32)) (addi (extractStridedSlice S8x256 ![184, 0] idx slices_S256x256_o184_0_S8x256) (broadcast S8x256 8#32)) (extractStridedSlice S8x256 ![184, 0] idx slices_S256x256_o184_0_S8x256)) shapeCasts_S8x256_S8x256x1) shapeCasts_S8x256x1_S8x256)⟩,
     ⟨S8x256, dynamicGather 0 tab (shapeCast S8x256 (shapeCast S8x256x1 (select (cmpi .slt (extractStridedSlice S8x256 ![192, 0] idx slices_S256x256_o192_0_S8x256) (broadcast S8x256 0#32)) (addi (extractStridedSlice S8x256 ![192, 0] idx slices_S256x256_o192_0_S8x256) (broadcast S8x256 8#32)) (extractStridedSlice S8x256 ![192, 0] idx slices_S256x256_o192_0_S8x256)) shapeCasts_S8x256_S8x256x1) shapeCasts_S8x256x1_S8x256)⟩,
     ⟨S8x256, dynamicGather 0 tab (shapeCast S8x256 (shapeCast S8x256x1 (select (cmpi .slt (extractStridedSlice S8x256 ![200, 0] idx slices_S256x256_o200_0_S8x256) (broadcast S8x256 0#32)) (addi (extractStridedSlice S8x256 ![200, 0] idx slices_S256x256_o200_0_S8x256) (broadcast S8x256 8#32)) (extractStridedSlice S8x256 ![200, 0] idx slices_S256x256_o200_0_S8x256)) shapeCasts_S8x256_S8x256x1) shapeCasts_S8x256x1_S8x256)⟩,
     ⟨S8x256, dynamicGather 0 tab (shapeCast S8x256 (shapeCast S8x256x1 (select (cmpi .slt (extractStridedSlice S8x256 ![208, 0] idx slices_S256x256_o208_0_S8x256) (broadcast S8x256 0#32)) (addi (extractStridedSlice S8x256 ![208, 0] idx slices_S256x256_o208_0_S8x256) (broadcast S8x256 8#32)) (extractStridedSlice S8x256 ![208, 0] idx slices_S256x256_o208_0_S8x256)) shapeCasts_S8x256_S8x256x1) shapeCasts_S8x256x1_S8x256)⟩,
     ⟨S8x256, dynamicGather 0 tab (shapeCast S8x256 (shapeCast S8x256x1 (select (cmpi .slt (extractStridedSlice S8x256 ![216, 0] idx slices_S256x256_o216_0_S8x256) (broadcast S8x256 0#32)) (addi (extractStridedSlice S8x256 ![216, 0] idx slices_S256x256_o216_0_S8x256) (broadcast S8x256 8#32)) (extractStridedSlice S8x256 ![216, 0] idx slices_S256x256_o216_0_S8x256)) shapeCasts_S8x256_S8x256x1) shapeCasts_S8x256x1_S8x256)⟩,
     ⟨S8x256, dynamicGather 0 tab (shapeCast S8x256 (shapeCast S8x256x1 (select (cmpi .slt (extractStridedSlice S8x256 ![224, 0] idx slices_S256x256_o224_0_S8x256) (broadcast S8x256 0#32)) (addi (extractStridedSlice S8x256 ![224, 0] idx slices_S256x256_o224_0_S8x256) (broadcast S8x256 8#32)) (extractStridedSlice S8x256 ![224, 0] idx slices_S256x256_o224_0_S8x256)) shapeCasts_S8x256_S8x256x1) shapeCasts_S8x256x1_S8x256)⟩,
     ⟨S8x256, dynamicGather 0 tab (shapeCast S8x256 (shapeCast S8x256x1 (select (cmpi .slt (extractStridedSlice S8x256 ![232, 0] idx slices_S256x256_o232_0_S8x256) (broadcast S8x256 0#32)) (addi (extractStridedSlice S8x256 ![232, 0] idx slices_S256x256_o232_0_S8x256) (broadcast S8x256 8#32)) (extractStridedSlice S8x256 ![232, 0] idx slices_S256x256_o232_0_S8x256)) shapeCasts_S8x256_S8x256x1) shapeCasts_S8x256x1_S8x256)⟩,
     ⟨S8x256, dynamicGather 0 tab (shapeCast S8x256 (shapeCast S8x256x1 (select (cmpi .slt (extractStridedSlice S8x256 ![240, 0] idx slices_S256x256_o240_0_S8x256) (broadcast S8x256 0#32)) (addi (extractStridedSlice S8x256 ![240, 0] idx slices_S256x256_o240_0_S8x256) (broadcast S8x256 8#32)) (extractStridedSlice S8x256 ![240, 0] idx slices_S256x256_o240_0_S8x256)) shapeCasts_S8x256_S8x256x1) shapeCasts_S8x256x1_S8x256)⟩,
     ⟨S8x256, dynamicGather 0 tab (shapeCast S8x256 (shapeCast S8x256x1 (select (cmpi .slt (extractStridedSlice S8x256 ![248, 0] idx slices_S256x256_o248_0_S8x256) (broadcast S8x256 0#32)) (addi (extractStridedSlice S8x256 ![248, 0] idx slices_S256x256_o248_0_S8x256) (broadcast S8x256 8#32)) (extractStridedSlice S8x256 ![248, 0] idx slices_S256x256_o248_0_S8x256)) shapeCasts_S8x256_S8x256x1) shapeCasts_S8x256x1_S8x256)⟩]
    concatenates_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S256x256_d0 := rfl

/-- The decoded weight words of one 256-column half: row `i` holds weight rows `2i` (low half) and `2i+1` (high half). -/
def words (c : IVec S256x256 32) (tab : IVec S8x256 32) : IVec S256x256 32 :=
  let lo := pairs tab (andi (shrsi c (broadcast S256x256 1#32)) (broadcast S256x256 7#32))
  let hi := pairs tab (shrsi c (broadcast S256x256 5#32))
  ori
    (andi (select (cmpi .ne (andi c (broadcast S256x256 1#32)) (broadcast S256x256 0#32))
      (shrsi lo (broadcast S256x256 16#32)) lo) (broadcast S256x256 65535#32))
    (andi (select (cmpi .ne (andi c (broadcast S256x256 16#32)) (broadcast S256x256 0#32))
      hi (shli hi (broadcast S256x256 16#32))) (broadcast S256x256 4294901760#32))

/-- One 256-column half of the dense step: the accumulator plus the product of the `x` block with the decoded weights. -/
def half (x : Vec F S1536x512 .bf16) (c : Vec F S256x256 .i8) (tab : Vec F S8x256 .i32) (acc : Vec F S1536x256 .f32) :
    FVec F S1536x256 .f32 :=
  addf (shapeCast S1536x256 acc shapeCasts_S1536x256_S1536x256)
    (matmul dot_S1536x512_S512x256_S1536x256_1_0_0_1_n_n none (shapeCast S1536x512 x shapeCasts_S1536x512_S1536x512)
      (bitcastToFloat .bf16 (bitcast S512x256 16 (words (extui 32 c natLt_8_32) (shapeCast S8x256 tab shapeCasts_S8x256_S8x256))
        bitcasts_S256x256_w32_S512x256_w16)) (constant S1536x256 .f32 0x00000000#32))

theorem hz2 : ∀ a : Fin S1536x512.rank, (![0, 0] : Fin 2 → Nat) a = 0 := by decide

theorem hz : (![0, 0] : Fin 2 → Nat) = fun _ => 0 := funext fun a => by fin_cases a <;> rfl

theorem out_B (c : Dev nD) (i : grid0.Coords) (a2 : Memref sig .tc .vmem S1536x512 .bf16) (h2 : a2.IsWhole)
    (a3 : Memref sig .tc .vmem S256x512 .i8) (h3 : a3.IsWhole) (a4 : Memref sig .tc .vmem S8x512 .i32) (h4 : a4.IsWhole)
    (a5 : Memref sig .tc .vmem S1536x512 .f32) (h5 : a5.IsWhole) (hc : ¬cond0_0 i)
    (x0 : Vec F S1536x512 .bf16) (x1 : Vec F S256x512 .i8) (x2 : Vec F S8x512 .i32) (xo : Vec F S1536x512 .f32) :
    out0_B_3 c i a2 h2 a3 h3 a4 h4 a5 h5 hc x0 x1 x2 xo = View.canon
      [⟨Rect.unit (s := S1536x512) ![0, 256] S1536x256.size inb_S1536x512_S1536x256_0_256,
          half x0 (View.ld x1 (Rect.unit (s := S256x512) ![0, 256] S256x256.size inb_S256x512_S256x256_0_256))
            (View.ld x2 (Rect.unit (s := S8x512) ![0, 256] S8x256.size inb_S8x512_S8x256_0_256))
            (View.ld xo (Rect.unit (s := S1536x512) ![0, 256] S1536x256.size inb_S1536x512_S1536x256_0_256))⟩,
       ⟨Rect.unit (s := S1536x512) ![0, 0] S1536x256.size inb_S1536x512_S1536x256_0_0,
          half x0 (View.ld x1 (Rect.unit (s := S256x512) ![0, 0] S256x256.size inb_S256x512_S256x256_0_0))
            (View.ld x2 (Rect.unit (s := S8x512) ![0, 0] S8x256.size inb_S8x512_S8x256_0_0))
            (View.ld xo (Rect.unit (s := S1536x512) ![0, 0] S1536x256.size inb_S1536x512_S1536x256_0_0))⟩] := by
  unfold out0_B_3
  rw [View.read_writes_eq_canon _ _ _ (cover0_B_3 c i a2 h2 a3 h3 a4 h4 a5 h5 hc x0 x1 x2 xo)]
  unfold kernelRun0_B
  dsimp only
  sl_unfold_words
  simp only [View.readAt_eq_ld]
  rw [h2.read_unread, h3.read_unread, h4.read_unread, h5.read_unread, View.ld_unit_zero (S := S1536x512) hz]
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
  simp only [half, words, pairs_lit]

/-- The first point of a run stores zero first, so the accumulator its two halves load is zero. -/
theorem out_A (c : Dev nD) (i : grid0.Coords) (a2 : Memref sig .tc .vmem S1536x512 .bf16) (h2 : a2.IsWhole)
    (a3 : Memref sig .tc .vmem S256x512 .i8) (h3 : a3.IsWhole) (a4 : Memref sig .tc .vmem S8x512 .i32) (h4 : a4.IsWhole)
    (a5 : Memref sig .tc .vmem S1536x512 .f32) (h5 : a5.IsWhole) (hc : cond0_0 i)
    (x0 : Vec F S1536x512 .bf16) (x1 : Vec F S256x512 .i8) (x2 : Vec F S8x512 .i32) :
    out0_A_3 c i a2 h2 a3 h3 a4 h4 a5 h5 hc x0 x1 x2 = View.canon
      [⟨Rect.unit (s := S1536x512) ![0, 256] S1536x256.size inb_S1536x512_S1536x256_0_256,
          half x0 (View.ld x1 (Rect.unit (s := S256x512) ![0, 256] S256x256.size inb_S256x512_S256x256_0_256))
            (View.ld x2 (Rect.unit (s := S8x512) ![0, 256] S8x256.size inb_S8x512_S8x256_0_256))
            (View.ld (k0_pay2 (F := F)) (Rect.unit (s := S1536x512) ![0, 256] S1536x256.size inb_S1536x512_S1536x256_0_256))⟩,
       ⟨Rect.unit (s := S1536x512) ![0, 0] S1536x256.size inb_S1536x512_S1536x256_0_0,
          half x0 (View.ld x1 (Rect.unit (s := S256x512) ![0, 0] S256x256.size inb_S256x512_S256x256_0_0))
            (View.ld x2 (Rect.unit (s := S8x512) ![0, 0] S8x256.size inb_S8x512_S8x256_0_0))
            (View.ld (k0_pay2 (F := F)) (Rect.unit (s := S1536x512) ![0, 0] S1536x256.size inb_S1536x512_S1536x256_0_0))⟩,
       ⟨Rect.unit (s := S1536x512) ![0, 0] S1536x512.size inb_S1536x512_S1536x512_0_0, k0_pay2⟩] := by
  unfold out0_A_3
  rw [View.read_writes_eq_canon _ _ _ (cover0_A_3 c i a2 h2 a3 h3 a4 h4 a5 h5 hc x0 x1 x2)]
  unfold kernelRun0_A
  dsimp only
  sl_unfold_words
  simp only [View.readAt_eq_ld]
  rw [h2.read_unread, h3.read_unread, h4.read_unread, View.ld_unit_zero (S := S1536x512) hz]
  simp (discharger := decide) only [↓View.readCov_skip]
  have hf : ∀ r : Rect S1536x512, a5.view.readCov (Val := Elt F) [⟨Rect.unit (s := S1536x512) ![0, 0] S1536x512.size inb_S1536x512_S1536x512_0_0, k0_pay2 (F := F)⟩] r.toLoadRect
      = View.ld (k0_pay2 (F := F)) r := fun r => View.readCov_fill (Val := Elt F) (s := S1536x512) (e := .f32) (off := ![0, 0]) a5.view inb_S1536x512_S1536x512_0_0 (k0_pay2 (F := F)) [] r hz2
  simp only [hf]
  simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
  simp only [half, words, pairs_lit]

end Cert.KernelIdeal.Value
-- ==== Proof.DenseStep.lean ====
module

public import proofs.«01_k».proof.Proof.DenseBlock
public import Idealize.ShloMosaic.Lib.BitcastPair
public import Idealize.ShloMosaic.Lib.Pointwise
public import Idealize.ShloMosaic.Lib.Pipeline.ValueKit.Tiles

@[expose] public section
set_option maxRecDepth 16384
noncomputable section
open Idealize.ShloMosaic Idealize.ShloMosaic.TcCoe Idealize.SL.Sem
namespace Cert.KernelIdeal.Value
open Cert.KernelIdeal Cert.KernelIdeal.Gen

/-- An index below eight is not negative, so the wrapped index is the index. -/
theorem sel_pos (v : BitVec 32) (h : v.toNat < 8) : Scalar.select (IntOp.cmpi .slt v 0#32) (IntOp.addi v 8#32) v = v := by
  have : v = BitVec.ofNat 32 v.toNat := by simp
  rw [this]
  generalize v.toNat = k at h
  interval_cases k <;> rfl

/-- A tile read at an index, when the pair index there is a row of the table. -/
theorem tile_apply (tab : IVec S8x256 32) (idx : IVec S256x256 32) (r : Fin 32) (i : Fin 8) (n : Fin 256) (m : Fin 256)
    (hm : m.val = 8 * r.val + i.val) (h : (idx (ix2 m n)).toNat < 8) :
    tile tab idx r (ix2 i n) = tab (ix2 ⟨(idx (ix2 m n)).toNat, h⟩ n) := by
  have e : extractStridedSlice S8x256 ![8 * r.val, 0] idx (slices_tile r) (ix2 i n) = idx (ix2 m n) :=
    extractStridedSlice_apply _ _ _ _ _ fun a => by fin_cases a <;> simp [ix2, hm]
  unfold tile
  rw [dynamicGather_apply, shapeCast_shapeCast]
  have hs : (select (cmpi .slt (extractStridedSlice S8x256 ![8 * r.val, 0] idx (slices_tile r)) (broadcast S8x256 0#32))
      (addi (extractStridedSlice S8x256 ![8 * r.val, 0] idx (slices_tile r)) (broadcast S8x256 8#32))
      (extractStridedSlice S8x256 ![8 * r.val, 0] idx (slices_tile r))) (ix2 i n) = idx (ix2 m n) := by
    show Scalar.select (IntOp.cmpi .slt (extractStridedSlice S8x256 ![8 * r.val, 0] idx (slices_tile r) (ix2 i n)) 0#32)
      (IntOp.addi (extractStridedSlice S8x256 ![8 * r.val, 0] idx (slices_tile r) (ix2 i n)) 8#32)
      (extractStridedSlice S8x256 ![8 * r.val, 0] idx (slices_tile r) (ix2 i n)) = idx (ix2 m n)
    rw [e]
    exact sel_pos _ h
  refine congrArg tab (funext fun b => ?_)
  match b with
  | ⟨0, _⟩ =>
    refine Fin.ext ?_
    show (((select _ _ _ : IVec S8x256 32) (ix2 i n)).toNat % 8) = (idx (ix2 m n)).toNat
    rw [hs]
    exact Nat.mod_eq_of_lt h
  | ⟨1, _⟩ => rfl

/-- The lookup of a whole plane at an index. -/
theorem pairs_apply (tab : IVec S8x256 32) (idx : IVec S256x256 32) (m n : Fin 256) (h : (idx (ix2 m n)).toNat < 8) :
    pairs tab idx (ix2 m n) = tab (ix2 ⟨(idx (ix2 m n)).toNat, h⟩ n) := by
  unfold pairs
  rw [concatenate_ofFn_apply (t := S256x256) (s₁ := S8x256) 0 (tile tab idx) (concats_tiles _) rfl 8 rfl (ix2 m n) ⟨m.val / 8, by omega⟩ rfl
    (ix2 ⟨m.val % 8, by omega⟩ n) rfl (by
      intro b hb
      match b with
      | ⟨0, _⟩ => exact absurd rfl hb
      | ⟨1, _⟩ => rfl)]
  exact tile_apply tab idx _ _ n m (by dsimp only; omega) h

/-- Four-bit code `p` (0: low, 1: high) of a byte. -/
def nib (c : BitVec 8) (p : Nat) : Nat := c.toNat / 16 ^ p % 16

theorem nib_lt (c : BitVec 8) (p : Nat) : nib c p / 2 < 8 := by unfold nib; omega

theorem lo_idx : ∀ c : BitVec 8, (IntOp.andi (IntOp.shrsi .vector (c.setWidth 32) 1#32) 7#32).toNat = nib c 0 / 2 := by
  decide +kernel
theorem hi_idx : ∀ c : BitVec 8, (IntOp.shrsi .vector (c.setWidth 32) 5#32).toNat = nib c 1 / 2 := by
  decide +kernel

/-- The low half-word chosen: bit 0 of the code picks the half of the low pair. -/
theorem lo_half (b : BitVec 1) (lo hi' : BitVec 32) :
    (IntOp.ori (IntOp.andi (Scalar.select b (IntOp.shrsi .vector lo 16#32) lo) 65535#32) (IntOp.andi hi' 4294901760#32)).extractLsb' 0 16
      = lo.extractLsb' (16 * b.toNat) 16 := by
  apply BitVec.eq_of_getLsbD_eq
  intro i hlt
  have hb : b = 0#1 ∨ b = 1#1 := by revert b; decide
  rcases hb with rfl | rfl
  · show (((lo &&& 65535#32) ||| (hi' &&& 4294901760#32)).extractLsb' 0 16).getLsbD i = (lo.extractLsb' 0 16).getLsbD i
    interval_cases i <;> simp [BitVec.getLsbD_extractLsb']
  · show (((lo.sshiftRight 16 &&& 65535#32) ||| (hi' &&& 4294901760#32)).extractLsb' 0 16).getLsbD i = (lo.extractLsb' 16 16).getLsbD i
    interval_cases i <;> simp [BitVec.getLsbD_extractLsb', BitVec.getElem_sshiftRight]
theorem hi_half (b : BitVec 1) (lo' hi : BitVec 32) :
    (IntOp.ori (IntOp.andi lo' 65535#32) (IntOp.andi (Scalar.select b hi (IntOp.shli .vector hi 16#32)) 4294901760#32)).extractLsb' 16 16
      = hi.extractLsb' (16 * b.toNat) 16 := by
  apply BitVec.eq_of_getLsbD_eq
  intro i hlt
  have hb : b = 0#1 ∨ b = 1#1 := by revert b; decide
  rcases hb with rfl | rfl
  · show (((lo' &&& 65535#32) ||| ((hi <<< 16) &&& 4294901760#32)).extractLsb' 16 16).getLsbD i = (hi.extractLsb' 0 16).getLsbD i
    interval_cases i <;> simp [BitVec.getLsbD_extractLsb']
  · show (((lo' &&& 65535#32) ||| (hi &&& 4294901760#32)).extractLsb' 16 16).getLsbD i = (hi.extractLsb' 16 16).getLsbD i
    interval_cases i <;> simp [BitVec.getLsbD_extractLsb']
theorem lo_bit : ∀ c : BitVec 8, (IntOp.cmpi .ne (IntOp.andi (c.setWidth 32) 1#32) 0#32).toNat = nib c 0 % 2 := by
  decide +kernel
theorem hi_bit : ∀ c : BitVec 8, (IntOp.cmpi .ne (IntOp.andi (c.setWidth 32) 16#32) 0#32).toNat = nib c 1 % 2 := by
  decide +kernel

/-- The sixteen bits of the weight a byte's four-bit code `p` names, out of its column's pair table. -/
def wbits (c : BitVec 8) (p : Nat) (tab : Fin 8 → BitVec 32) : BitVec 16 :=
  (tab ⟨nib c p / 2, nib_lt c p⟩).extractLsb' (16 * (nib c p % 2)) 16

/-- A half-word of a decoded word: parity 0 the low code's weight, parity 1 the high code's. -/
theorem words_apply (c : IVec S256x256 8) (tab : IVec S8x256 32) (m n : Fin 256) (p : Nat) (hp : p < 2) :
    (words (extui 32 c natLt_8_32) tab (ix2 m n)).extractLsb' (16 * p) 16 = wbits (c (ix2 m n)) p (fun q => tab (ix2 q n)) := by
  have el := pairs_apply tab (andi (shrsi (extui 32 c natLt_8_32) (broadcast S256x256 1#32)) (broadcast S256x256 7#32)) m n
    (by show (IntOp.andi (IntOp.shrsi .vector ((c (ix2 m n)).setWidth 32) 1#32) 7#32).toNat < 8; rw [lo_idx]; exact nib_lt _ _)
  have eh := pairs_apply tab (shrsi (extui 32 c natLt_8_32) (broadcast S256x256 5#32)) m n
    (by show (IntOp.shrsi .vector ((c (ix2 m n)).setWidth 32) 5#32).toNat < 8; rw [hi_idx]; exact nib_lt _ _)
  have hp' : p = 0 ∨ p = 1 := by omega
  rcases hp' with rfl | rfl
  · refine (lo_half _ _ _).trans ?_
    rw [el]
    unfold wbits
    congr 1
    · exact congrArg (16 * ·) (lo_bit _)
    · exact congrArg tab (congrArg (ix2 · n) (Fin.ext (lo_idx _)))
  · refine (hi_half _ _ _).trans ?_
    rw [eh]
    unfold wbits
    congr 1
    · exact congrArg (16 * ·) (hi_bit _)
    · exact congrArg tab (congrArg (ix2 · n) (Fin.ext (hi_idx _)))

/-- One half of the dense step at an index, over the reals. -/
theorem half_apply (x : Vec Ideal S1536x512 .bf16) (c : Vec Ideal S256x256 .i8) (tab : Vec Ideal S8x256 .i32) (acc : Vec Ideal S1536x256 .f32)
    (m : Fin 1536) (n : Fin 256) :
    half x c tab acc (ix2 m n) = acc (ix2 m n) + ∑ k : Fin 512, x (ix2 m k) *
      Ideal.ofBits .bf16 (wbits (c (ix2 ⟨k.val / 2, by omega⟩ n)) (k.val % 2) (fun q => tab (ix2 q n))) := by
  unfold half
  rw [shapeCast_self, shapeCast_self, shapeCast_self]
  pointwise
  refine congrArg _ (Finset.sum_congr rfl fun k _ => congrArg (x (ix2 m k) * Ideal.ofBits .bf16 ·) ?_)
  rw [bitcast_32_16, ← words_apply c tab ⟨k.val / 2, by omega⟩ n (k.val % 2) (by omega)]
  refine congrArg (fun i => BitVec.extractLsb' _ 16 (words (extui 32 c natLt_8_32) tab i)) (funext fun a => Fin.ext ?_)
  match a with
  | ⟨0, _⟩ => exact Shape.Bitcasts.srcIdx_row _ _ _ _ _ rfl
  | ⟨1, _⟩ => exact Shape.Bitcasts.srcIdx_other _ _ _ _ _ (by show ¬ (1 + 2 = 2); decide)

/-- Weight row `k`, column `n` of a code block, decoded with its columns' pair table. -/
def wblk (codes : Vec Ideal S256x512 .i8) (tab : Vec Ideal S8x512 .i32) (k n : Fin 512) : EReal :=
  Ideal.ofBits .bf16 (wbits (codes (ix2 ⟨k.val / 2, by omega⟩ n)) (k.val % 2) (fun q => tab (ix2 q n)))

/-- One dense step: the accumulator plus the product of the `x` block with the decoded block. -/
def stepD (x : Vec Ideal S1536x512 .bf16) (codes : Vec Ideal S256x512 .i8) (tab : Vec Ideal S8x512 .i32)
    (acc : Vec Ideal S1536x512 .f32) : Vec Ideal S1536x512 .f32 :=
  fun y => acc y + ∑ k : Fin 512, x (ix2 (y 0) k) * wblk codes tab k (y 1)

/-- A half of the step at column offset `o` is that half of `stepD`. -/
theorem half_step (x : Vec Ideal S1536x512 .bf16) (codes : Vec Ideal S256x512 .i8) (tab : Vec Ideal S8x512 .i32)
    (acc : Vec Ideal S1536x512 .f32) (o : Nat)
    (i1 : ∀ a, (![0, o] : Fin 2 → Nat) a + S256x256.size a ≤ S256x512.size a)
    (i2 : ∀ a, (![0, o] : Fin 2 → Nat) a + S8x256.size a ≤ S8x512.size a)
    (i3 : ∀ a, (![0, o] : Fin 2 → Nat) a + S1536x256.size a ≤ S1536x512.size a) (y : S1536x256.Idx) :
    half x (View.ld codes (Rect.unit (s := S256x512) ![0, o] S256x256.size i1)) (View.ld tab (Rect.unit (s := S8x512) ![0, o] S8x256.size i2))
      (View.ld acc (Rect.unit (s := S1536x512) ![0, o] S1536x256.size i3)) y
      = stepD x codes tab acc ((Rect.unit (s := S1536x512) ![0, o] S1536x256.size i3).emb y) := by
  obtain ⟨m, n, rfl⟩ : ∃ m n, y = ix2 m n := ⟨y 0, y 1, by funext a; match a with | ⟨0, _⟩ => rfl | ⟨1, _⟩ => rfl⟩
  have ho : o + 256 ≤ 512 := i3 1
  have he : (Rect.unit (s := S1536x512) ![0, o] S1536x256.size i3).emb (ix2 m n) = ix2 m ⟨o + n.val, by omega⟩ := by
    funext a
    match a with
    | ⟨0, _⟩ => exact Fin.ext ((Rect.idx_unit_val _ _ i3 _ _).trans (Nat.zero_add _))
    | ⟨1, _⟩ => exact Fin.ext (Rect.idx_unit_val _ _ i3 _ _)
  rw [half_apply, he]
  unfold stepD
  have hacc : View.ld acc (Rect.unit (s := S1536x512) ![0, o] S1536x256.size i3) (ix2 m n) = acc (ix2 m ⟨o + n.val, by omega⟩) := congrArg acc he
  rw [hacc]
  refine congrArg _ (Finset.sum_congr rfl fun k _ => congrArg (x (ix2 m k) * ·) ?_)
  unfold wblk
  refine congrArg (Ideal.ofBits .bf16) (congrArg₂ (fun c t => wbits c (k.val % 2) t) ?_ (funext fun q => ?_))
  · exact View.ld_unit_apply_of _ _ _ _ _ _ fun a => by
      match a with
      | ⟨0, _⟩ => exact (Nat.zero_add _).symm
      | ⟨1, _⟩ => rfl
  · exact View.ld_unit_apply_of _ _ _ _ _ _ fun a => by
      match a with
      | ⟨0, _⟩ => exact (Nat.zero_add _).symm
      | ⟨1, _⟩ => rfl

/-- The two column halves cover the block. -/
theorem cover2 (wR wL : S1536x256.Idx → Elt Ideal .f32) (y : S1536x512.Idx) : ∃ p ∈ ([
    ⟨Rect.unit (s := S1536x512) ![0, 256] S1536x256.size inb_S1536x512_S1536x256_0_256, wR⟩,
    ⟨Rect.unit (s := S1536x512) ![0, 0] S1536x256.size inb_S1536x512_S1536x256_0_0, wL⟩] : List (View.Piece (Elt Ideal) S1536x512 .f32)), y ∈ p.1.set := by
  have h0 : (y 0).val < 1536 := (y 0).isLt
  have h1 : (y 1).val < 512 := (y 1).isLt
  by_cases h : (y 1).val < 256
  · refine ⟨_, List.mem_cons_of_mem _ List.mem_cons_self, (Rect.mem_set_unit (inb := inb_S1536x512_S1536x256_0_0)).mpr fun a => ?_⟩
    match a with
    | ⟨0, _⟩ => exact ⟨Nat.zero_le _, by show (y 0).val < 0 + 1536; omega⟩
    | ⟨1, _⟩ => exact ⟨Nat.zero_le _, by show (y 1).val < 0 + 256; omega⟩
  · refine ⟨_, List.mem_cons_self, (Rect.mem_set_unit (inb := inb_S1536x512_S1536x256_0_256)).mpr fun a => ?_⟩
    match a with
    | ⟨0, _⟩ => exact ⟨Nat.zero_le _, by show (y 0).val < 0 + 1536; omega⟩
    | ⟨1, _⟩ => exact ⟨by show 256 ≤ (y 1).val; omega, by show (y 1).val < 256 + 256; omega⟩

/-- What a later point of a run leaves: the step from the accumulator it found. -/
theorem out_B_step (c : Dev nD) (i : grid0.Coords) (a2 : Memref sig .tc .vmem S1536x512 .bf16) (h2 : a2.IsWhole)
    (a3 : Memref sig .tc .vmem S256x512 .i8) (h3 : a3.IsWhole) (a4 : Memref sig .tc .vmem S8x512 .i32) (h4 : a4.IsWhole)
    (a5 : Memref sig .tc .vmem S1536x512 .f32) (h5 : a5.IsWhole) (hc : ¬cond0_0 i)
    (x0 : Vec Ideal S1536x512 .bf16) (x1 : Vec Ideal S256x512 .i8) (x2 : Vec Ideal S8x512 .i32) (xo : Vec Ideal S1536x512 .f32) :
    out0_B_3 (F := Ideal) c i a2 h2 a3 h3 a4 h4 a5 h5 hc x0 x1 x2 xo = stepD x0 x1 x2 xo := by
  rw [out_B]
  funext y
  exact View.canon_append_of_piecesOf (stepD x0 x1 x2 xo) [] [_, _]
    ⟨half_step x0 x1 x2 xo 256 _ _ _, half_step x0 x1 x2 xo 0 _ _ _, trivial⟩ y (cover2 _ _ y)

/-- What the first point of a run leaves: the step from zero. -/
theorem out_A_step (c : Dev nD) (i : grid0.Coords) (a2 : Memref sig .tc .vmem S1536x512 .bf16) (h2 : a2.IsWhole)
    (a3 : Memref sig .tc .vmem S256x512 .i8) (h3 : a3.IsWhole) (a4 : Memref sig .tc .vmem S8x512 .i32) (h4 : a4.IsWhole)
    (a5 : Memref sig .tc .vmem S1536x512 .f32) (h5 : a5.IsWhole) (hc : cond0_0 i)
    (x0 : Vec Ideal S1536x512 .bf16) (x1 : Vec Ideal S256x512 .i8) (x2 : Vec Ideal S8x512 .i32) :
    out0_A_3 (F := Ideal) c i a2 h2 a3 h3 a4 h4 a5 h5 hc x0 x1 x2 = stepD x0 x1 x2 (fun _ => 0) := by
  have hz0 : (k0_pay2 (F := Ideal)) = fun _ => (0 : EReal) := funext fun _ => Ideal.ofBits_zero_f32
  rw [out_A, hz0]
  funext y
  exact View.canon_append_of_piecesOf (stepD x0 x1 x2 fun _ => 0) [_] [_, _]
    ⟨half_step x0 x1 x2 _ 256 _ _ _, half_step x0 x1 x2 _ 0 _ _ _, trivial⟩ y (cover2 _ _ y)

end Cert.KernelIdeal.Value
-- ==== Proof.SparseBlock.lean ====
module

public import proofs.«01_k».proof.Proof.DenseStep

@[expose] public section
set_option maxRecDepth 16384
noncomputable section
open Idealize.ShloMosaic Idealize.ShloMosaic.TcCoe Idealize.SL.Sem
namespace Cert.KernelIdeal.Value
open Cert.KernelIdeal Cert.KernelIdeal.Gen
variable {F : FTy → Type} [FloatOps F]

/-- 128 columns of sparse weights out of one column tile of words: row `2r` the low half of word row `r`, row `2r+1` the high half. -/
def piece (w : Vec F S32x1x8x128 .i32) : FVec F S512x128 .bf16 :=
  bitcastToFloat .bf16 (bitcast S512x128 16 (shapeCast S256x128 (shapeCast S32x8x128 w shapeCasts_S32x1x8x128_S32x8x128)
    shapeCasts_S32x8x128_S256x128) bitcasts_S256x128_w32_S512x128_w16)

/-- One 256-column half of the sparse step: the accumulator plus the product of the `x` block with two pieces side by side. -/
def sHalf (x : Vec F S1536x512 .bf16) (w0 w1 : Vec F S32x1x8x128 .i32) (acc : Vec F S1536x256 .f32) : FVec F S1536x256 .f32 :=
  addf (shapeCast S1536x256 acc shapeCasts_S1536x256_S1536x256)
    (matmul dot_S1536x512_S512x256_S1536x256_1_0_0_1_n_n none (shapeCast S1536x512 x shapeCasts_S1536x512_S1536x512)
      (concatenate S512x256 1 [⟨S512x128, piece w0⟩, ⟨S512x128, piece w1⟩] concatenates_S512x128_S512x128_S512x256_d1)
      (constant S1536x256 .f32 0x00000000#32))

theorem out1_B (c : Dev nD) (i : grid1.Coords) (a2 : Memref sig .tc .vmem S1536x512 .bf16) (h2 : a2.IsWhole)
    (a3 : Memref sig .tc .vmem S32x4x8x128 .i32) (h3 : a3.IsWhole) (a4 : Memref sig .tc .vmem S1536x512 .f32) (h4 : a4.IsWhole)
    (a5 : Memref sig .tc .vmem S1536x512 .bf16) (h5 : a5.IsWhole) (a6 : Memref sig .tc .vmem S1536x512 .f32) (h6 : a6.IsWhole)
    (hc0 : ¬cond1_0 i) (hc1 : ¬cond1_1 i)
    (x0 : Vec F S1536x512 .bf16) (x1 : Vec F S32x4x8x128 .i32) (x2 : Vec F S1536x512 .f32) (xo : Vec F S1536x512 .f32) :
    out1_B_4 c i a2 h2 a3 h3 a4 h4 a5 h5 a6 h6 hc0 hc1 x0 x1 x2 xo = View.canon
      [⟨Rect.unit (s := S1536x512) ![0, 256] S1536x256.size inb_S1536x512_S1536x256_0_256,
          sHalf x0 (View.ld x1 (Rect.unit (s := S32x4x8x128) ![0, 2, 0, 0] S32x1x8x128.size inb_S32x4x8x128_S32x1x8x128_0_2_0_0))
            (View.ld x1 (Rect.unit (s := S32x4x8x128) ![0, 3, 0, 0] S32x1x8x128.size inb_S32x4x8x128_S32x1x8x128_0_3_0_0))
            (View.ld xo (Rect.unit (s := S1536x512) ![0, 256] S1536x256.size inb_S1536x512_S1536x256_0_256))⟩,
       ⟨Rect.unit (s := S1536x512) ![0, 0] S1536x256.size inb_S1536x512_S1536x256_0_0,
          sHalf x0 (View.ld x1 (Rect.unit (s := S32x4x8x128) ![0, 0, 0, 0] S32x1x8x128.size inb_S32x4x8x128_S32x1x8x128_0_0_0_0))
            (View.ld x1 (Rect.unit (s := S32x4x8x128) ![0, 1, 0, 0] S32x1x8x128.size inb_S32x4x8x128_S32x1x8x128_0_1_0_0))
            (View.ld xo (Rect.unit (s := S1536x512) ![0, 0] S1536x256.size inb_S1536x512_S1536x256_0_0))⟩] := by
  unfold out1_B_4
  rw [View.read_writes_eq_canon _ _ _ (cover1_B_4 c i a2 h2 a3 h3 a4 h4 a5 h5 a6 h6 hc0 hc1 x0 x1 x2 xo)]
  unfold kernelRun1_B
  dsimp only
  sl_unfold_words
  simp only [View.readAt_eq_ld]
  rw [h2.read_unread, h3.read_unread, h6.read_unread, View.ld_unit_zero (S := S1536x512) hz]
  simp only [k1_pay1, k1_pay4, k1_pay5, k1_pay6, k1_pay7]
  simp only [sHalf, piece]

theorem out1_C (c : Dev nD) (i : grid1.Coords) (a2 : Memref sig .tc .vmem S1536x512 .bf16) (h2 : a2.IsWhole)
    (a3 : Memref sig .tc .vmem S32x4x8x128 .i32) (h3 : a3.IsWhole) (a4 : Memref sig .tc .vmem S1536x512 .f32) (h4 : a4.IsWhole)
    (a5 : Memref sig .tc .vmem S1536x512 .bf16) (h5 : a5.IsWhole) (a6 : Memref sig .tc .vmem S1536x512 .f32) (h6 : a6.IsWhole)
    (hc0 : ¬cond1_0 i) (hc1 : cond1_1 i)
    (x0 : Vec F S1536x512 .bf16) (x1 : Vec F S32x4x8x128 .i32) (x2 : Vec F S1536x512 .f32) (xo : Vec F S1536x512 .f32) :
    out1_C_4 c i a2 h2 a3 h3 a4 h4 a5 h5 a6 h6 hc0 hc1 x0 x1 x2 xo = View.canon
      [⟨Rect.unit (s := S1536x512) ![0, 256] S1536x256.size inb_S1536x512_S1536x256_0_256,
          sHalf x0 (View.ld x1 (Rect.unit (s := S32x4x8x128) ![0, 2, 0, 0] S32x1x8x128.size inb_S32x4x8x128_S32x1x8x128_0_2_0_0))
            (View.ld x1 (Rect.unit (s := S32x4x8x128) ![0, 3, 0, 0] S32x1x8x128.size inb_S32x4x8x128_S32x1x8x128_0_3_0_0))
            (View.ld xo (Rect.unit (s := S1536x512) ![0, 256] S1536x256.size inb_S1536x512_S1536x256_0_256))⟩,
       ⟨Rect.unit (s := S1536x512) ![0, 0] S1536x256.size inb_S1536x512_S1536x256_0_0,
          sHalf x0 (View.ld x1 (Rect.unit (s := S32x4x8x128) ![0, 0, 0, 0] S32x1x8x128.size inb_S32x4x8x128_S32x1x8x128_0_0_0_0))
            (View.ld x1 (Rect.unit (s := S32x4x8x128) ![0, 1, 0, 0] S32x1x8x128.size inb_S32x4x8x128_S32x1x8x128_0_1_0_0))
            (View.ld xo (Rect.unit (s := S1536x512) ![0, 0] S1536x256.size inb_S1536x512_S1536x256_0_0))⟩] := by
  unfold out1_C_4
  rw [View.read_writes_eq_canon _ _ _ (cover1_C_4 c i a2 h2 a3 h3 a4 h4 a5 h5 a6 h6 hc0 hc1 x0 x1 x2 xo)]
  unfold kernelRun1_C
  dsimp only
  sl_unfold_words
  simp only [View.readAt_eq_ld]
  rw [h2.read_unread, h3.read_unread, h6.read_unread, View.ld_unit_zero (S := S1536x512) hz]
  simp only [k1_pay1, k1_pay4, k1_pay5, k1_pay6, k1_pay7]
  simp only [sHalf, piece]

/-- The first point of a run stores zero first, so the accumulator its two halves load is zero. -/
theorem out1_A (c : Dev nD) (i : grid1.Coords) (a2 : Memref sig .tc .vmem S1536x512 .bf16) (h2 : a2.IsWhole)
    (a3 : Memref sig .tc .vmem S32x4x8x128 .i32) (h3 : a3.IsWhole) (a4 : Memref sig .tc .vmem S1536x512 .f32) (h4 : a4.IsWhole)
    (a5 : Memref sig .tc .vmem S1536x512 .bf16) (h5 : a5.IsWhole) (a6 : Memref sig .tc .vmem S1536x512 .f32) (h6 : a6.IsWhole)
    (hc0 : cond1_0 i) (hc1 : ¬cond1_1 i)
    (x0 : Vec F S1536x512 .bf16) (x1 : Vec F S32x4x8x128 .i32) (x2 : Vec F S1536x512 .f32) :
    out1_A_4 c i a2 h2 a3 h3 a4 h4 a5 h5 a6 h6 hc0 hc1 x0 x1 x2 = View.canon
      [⟨Rect.unit (s := S1536x512) ![0, 256] S1536x256.size inb_S1536x512_S1536x256_0_256,
          sHalf x0 (View.ld x1 (Rect.unit (s := S32x4x8x128) ![0, 2, 0, 0] S32x1x8x128.size inb_S32x4x8x128_S32x1x8x128_0_2_0_0))
            (View.ld x1 (Rect.unit (s := S32x4x8x128) ![0, 3, 0, 0] S32x1x8x128.size inb_S32x4x8x128_S32x1x8x128_0_3_0_0))
            (View.ld (k1_pay3 (F := F)) (Rect.unit (s := S1536x512) ![0, 256] S1536x256.size inb_S1536x512_S1536x256_0_256))⟩,
       ⟨Rect.unit (s := S1536x512) ![0, 0] S1536x256.size inb_S1536x512_S1536x256_0_0,
          sHalf x0 (View.ld x1 (Rect.unit (s := S32x4x8x128) ![0, 0, 0, 0] S32x1x8x128.size inb_S32x4x8x128_S32x1x8x128_0_0_0_0))
            (View.ld x1 (Rect.unit (s := S32x4x8x128) ![0, 1, 0, 0] S32x1x8x128.size inb_S32x4x8x128_S32x1x8x128_0_1_0_0))
            (View.ld (k1_pay3 (F := F)) (Rect.unit (s := S1536x512) ![0, 0] S1536x256.size inb_S1536x512_S1536x256_0_0))⟩,
       ⟨Rect.unit (s := S1536x512) ![0, 0] S1536x512.size inb_S1536x512_S1536x512_0_0, k1_pay3⟩] := by
  unfold out1_A_4
  rw [View.read_writes_eq_canon _ _ _ (cover1_A_4 c i a2 h2 a3 h3 a4 h4 a5 h5 a6 h6 hc0 hc1 x0 x1 x2)]
  unfold kernelRun1_A
  dsimp only
  sl_unfold_words
  simp only [View.readAt_eq_ld]
  rw [h2.read_unread, h3.read_unread, View.ld_unit_zero (S := S1536x512) hz]
  simp (discharger := decide) only [↓View.readCov_skip]
  have hf : ∀ r : Rect S1536x512, a6.view.readCov (Val := Elt F) [⟨Rect.unit (s := S1536x512) ![0, 0] S1536x512.size inb_S1536x512_S1536x512_0_0, k1_pay3 (F := F)⟩] r.toLoadRect
      = View.ld (k1_pay3 (F := F)) r := fun r => View.readCov_fill (Val := Elt F) (s := S1536x512) (e := .f32) (off := ![0, 0]) a6.view inb_S1536x512_S1536x512_0_0 (k1_pay3 (F := F)) [] r hz2
  simp only [hf]
  simp only [k1_pay1, k1_pay4, k1_pay5, k1_pay6, k1_pay7]
  simp only [sHalf, piece]

/-- The last point of a run also writes the sum of the dense block and the accumulator it has just stored. -/
theorem out1_C_y (c : Dev nD) (i : grid1.Coords) (a2 : Memref sig .tc .vmem S1536x512 .bf16) (h2 : a2.IsWhole)
    (a3 : Memref sig .tc .vmem S32x4x8x128 .i32) (h3 : a3.IsWhole) (a4 : Memref sig .tc .vmem S1536x512 .f32) (h4 : a4.IsWhole)
    (a5 : Memref sig .tc .vmem S1536x512 .bf16) (h5 : a5.IsWhole) (a6 : Memref sig .tc .vmem S1536x512 .f32) (h6 : a6.IsWhole)
    (hc0 : ¬cond1_0 i) (hc1 : cond1_1 i)
    (x0 : Vec F S1536x512 .bf16) (x1 : Vec F S32x4x8x128 .i32) (x2 : Vec F S1536x512 .f32) (xo : Vec F S1536x512 .f32) :
    out1_C_3 c i a2 h2 a3 h3 a4 h4 a5 h5 a6 h6 hc0 hc1 x0 x1 x2 xo = truncf .bf16 (addf x2 (out1_C_4 c i a2 h2 a3 h3 a4 h4 a5 h5 a6 h6 hc0 hc1 x0 x1 x2 xo)) bitsLt_bf16_f32 := by
  rw [out1_C]
  unfold out1_C_3
  rw [View.read_writes_eq_canon _ _ _ (cover1_C_3 c i a2 h2 a3 h3 a4 h4 a5 h5 a6 h6 hc0 hc1 x0 x1 x2 xo)]
  unfold kernelRun1_C
  dsimp only
  sl_unfold_words
  simp only [View.readAt_eq_ld]
  rw [View.canon_unit_zero hz, h2.read_unread, h3.read_unread, h4.read_unread, h6.read_unread]
  have hw : ∀ Ls : List (View.Piece (Elt F) S1536x512 .f32), a6.view.readCov Ls (Rect.unit (s := S1536x512) ![0, 0] S1536x512.size inb_S1536x512_S1536x512_0_0).toLoadRect = View.canon Ls := by
    intro Ls
    rw [View.readCov_eq_canon']
    funext j
    refine congrArg (View.canon Ls) (funext fun a => Fin.ext ((Rect.idx_unit_val _ _ inb_S1536x512_S1536x512_0_0 j a).trans ?_))
    match a with
    | ⟨0, _⟩ => exact Nat.zero_add _
    | ⟨1, _⟩ => exact Nat.zero_add _
  rw [hw, View.ld_unit_zero (S := S1536x512) hz, View.ld_unit_zero (S := S1536x512) hz]
  simp only [k1_pay2, k1_pay1, k1_pay4, k1_pay5, k1_pay6, k1_pay7]
  simp only [sHalf, piece, shapeCast_self]

end Cert.KernelIdeal.Value
-- ==== Proof.SparseStep.lean ====
module

public import proofs.«01_k».proof.Proof.SparseBlock

@[expose] public section
set_option maxRecDepth 16384
noncomputable section
open Idealize.ShloMosaic Idealize.ShloMosaic.TcCoe Idealize.SL.Sem
namespace Cert.KernelIdeal.Value
open Cert.KernelIdeal Cert.KernelIdeal.Gen

/-- A piece at an index. -/
theorem piece_apply (w : Vec Ideal S32x1x8x128 .i32) (k : Fin 512) (n : Fin 128) :
    piece w (ix2 k n) = Ideal.ofBits .bf16 ((w (ix4 ⟨k.val / 16, by omega⟩ 0 ⟨k.val / 2 % 8, by omega⟩ n)).extractLsb' (16 * (k.val % 2)) 16) := by
  show Ideal.ofBits .bf16 (bitcast S512x128 16 _ bitcasts_S256x128_w32_S512x128_w16 (ix2 k n)) = _
  rw [bitcast_32_16]
  refine congrArg (fun i => Ideal.ofBits .bf16 (BitVec.extractLsb' (16 * (k.val % 2)) 16 i)) ?_
  rw [show Shape.Bitcasts.srcIdx bitcasts_S256x128_w32_S512x128_w16 (ix2 k n) (S512x128.row (ix2 k n) / 2) _ = ix2 ⟨k.val / 2, by omega⟩ n from
    funext fun a => Fin.ext (by
      match a with
      | ⟨0, _⟩ => exact Shape.Bitcasts.srcIdx_row _ _ _ _ _ rfl
      | ⟨1, _⟩ => exact Shape.Bitcasts.srcIdx_other _ _ _ _ _ (by show ¬ (1 + 2 = 2); decide))]
  rw [shapeCast_apply _ _ _ (ix3 ⟨k.val / 16, by omega⟩ ⟨k.val / 2 % 8, by omega⟩ n),
    shapeCast_apply _ _ _ (ix4 ⟨k.val / 16, by omega⟩ 0 ⟨k.val / 2 % 8, by omega⟩ n)]
  · rw [Shape.rowMajor_val_four, Shape.rowMajor_val_three]
    show ((k.val / 16 * 1 + 0) * 8 + k.val / 2 % 8) * 128 + n.val = (k.val / 16 * 8 + k.val / 2 % 8) * 128 + n.val
    omega
  · rw [Shape.rowMajor_val_three, Shape.rowMajor_val_two]
    show (k.val / 16 * 8 + k.val / 2 % 8) * 128 + n.val = k.val / 2 * 128 + n.val
    omega

/-- Sparse weight row `k`, column `n` of a block of words. -/
def wblkS (w : Vec Ideal S32x4x8x128 .i32) (k n : Fin 512) : EReal :=
  Ideal.ofBits .bf16 ((w (ix4 ⟨k.val / 16, by omega⟩ ⟨n.val / 128, by omega⟩ ⟨k.val / 2 % 8, by omega⟩ ⟨n.val % 128, by omega⟩)).extractLsb' (16 * (k.val % 2)) 16)

/-- One sparse step: the accumulator plus the product of the `x` block with the block of weights. -/
def stepS (x : Vec Ideal S1536x512 .bf16) (w : Vec Ideal S32x4x8x128 .i32) (acc : Vec Ideal S1536x512 .f32) : Vec Ideal S1536x512 .f32 :=
  fun y => acc y + ∑ k : Fin 512, x (ix2 (y 0) k) * wblkS w k (y 1)

/-- A half of the step at column tile `p` is that half of `stepS`. -/
theorem sHalf_step (x : Vec Ideal S1536x512 .bf16) (w : Vec Ideal S32x4x8x128 .i32) (acc : Vec Ideal S1536x512 .f32) (o p q : Nat)
    (ho : o = 128 * p) (hq : q = p + 1)
    (i1 : ∀ a, (![0, p, 0, 0] : Fin 4 → Nat) a + S32x1x8x128.size a ≤ S32x4x8x128.size a)
    (i2 : ∀ a, (![0, q, 0, 0] : Fin 4 → Nat) a + S32x1x8x128.size a ≤ S32x4x8x128.size a)
    (i3 : ∀ a, (![0, o] : Fin 2 → Nat) a + S1536x256.size a ≤ S1536x512.size a) (y : S1536x256.Idx) :
    sHalf x (View.ld w (Rect.unit (s := S32x4x8x128) ![0, p, 0, 0] S32x1x8x128.size i1))
      (View.ld w (Rect.unit (s := S32x4x8x128) ![0, q, 0, 0] S32x1x8x128.size i2))
      (View.ld acc (Rect.unit (s := S1536x512) ![0, o] S1536x256.size i3)) y
      = stepS x w acc ((Rect.unit (s := S1536x512) ![0, o] S1536x256.size i3).emb y) := by
  obtain ⟨m, n, rfl⟩ : ∃ m n, y = ix2 m n := ⟨y 0, y 1, by funext a; match a with | ⟨0, _⟩ => rfl | ⟨1, _⟩ => rfl⟩
  have ho' : o + 256 ≤ 512 := i3 1
  have he : (Rect.unit (s := S1536x512) ![0, o] S1536x256.size i3).emb (ix2 m n) = ix2 m ⟨o + n.val, by omega⟩ := by
    funext a
    match a with
    | ⟨0, _⟩ => exact Fin.ext ((Rect.idx_unit_val _ _ i3 _ _).trans (Nat.zero_add _))
    | ⟨1, _⟩ => exact Fin.ext (Rect.idx_unit_val _ _ i3 _ _)
  rw [he]
  unfold sHalf
  rw [shapeCast_self, shapeCast_self]
  generalize hG : concatenate S512x256 1 [⟨S512x128, piece (View.ld w (Rect.unit (s := S32x4x8x128) ![0, p, 0, 0] S32x1x8x128.size i1))⟩,
    ⟨S512x128, piece (View.ld w (Rect.unit (s := S32x4x8x128) ![0, q, 0, 0] S32x1x8x128.size i2))⟩] concatenates_S512x128_S512x128_S512x256_d1 = G
  have hGk : ∀ k : Fin 512, G (ix2 k n) = wblkS w k ⟨o + n.val, by omega⟩ := by
    intro k
    rw [← hG]
    by_cases hn : n.val < 128
    · rw [concatenate_pair_apply_left (t := S512x256) (s₁ := S512x128) (s₂ := S512x128) 1 _ _ concatenates_S512x128_S512x128_S512x256_d1 (ix2 k n) rfl (ix2 k ⟨n.val, hn⟩)
        (fun b => by match b with | ⟨0, _⟩ => rfl | ⟨1, _⟩ => rfl), piece_apply]
      unfold wblkS
      refine congrArg (fun i => Ideal.ofBits .bf16 (BitVec.extractLsb' (16 * (k.val % 2)) 16 i)) (View.ld_unit_apply_of _ _ _ _ _ _ fun a => ?_)
      match a with
      | ⟨0, _⟩ => exact (Nat.zero_add _).symm
      | ⟨1, _⟩ => show (o + n.val) / 128 = p + 0; omega
      | ⟨2, _⟩ => exact (Nat.zero_add _).symm
      | ⟨3, _⟩ => show (o + n.val) % 128 = 0 + n.val; omega
    · rw [concatenate_pair_apply_right (t := S512x256) (s₁ := S512x128) (s₂ := S512x128) 1 _ _ concatenates_S512x128_S512x128_S512x256_d1 (ix2 k n) rfl rfl (ix2 k ⟨n.val - 128, by omega⟩)
        (fun b hb => by match b with | ⟨0, _⟩ => rfl | ⟨1, _⟩ => exact absurd rfl hb) (by show n.val - 128 + 128 = n.val; omega), piece_apply]
      unfold wblkS
      refine congrArg (fun i => Ideal.ofBits .bf16 (BitVec.extractLsb' (16 * (k.val % 2)) 16 i)) (View.ld_unit_apply_of _ _ _ _ _ _ fun a => ?_)
      match a with
      | ⟨0, _⟩ => exact (Nat.zero_add _).symm
      | ⟨1, _⟩ => show (o + n.val) / 128 = q + 0; omega
      | ⟨2, _⟩ => exact (Nat.zero_add _).symm
      | ⟨3, _⟩ => show (o + n.val) % 128 = 0 + (n.val - 128); omega
  pointwise
  unfold stepS
  exact congrArg _ (Finset.sum_congr rfl fun k _ => congrArg (x (ix2 m k) * ·) (hGk k))

theorem out1_B_step (c : Dev nD) (i : grid1.Coords) (a2 : Memref sig .tc .vmem S1536x512 .bf16) (h2 : a2.IsWhole)
    (a3 : Memref sig .tc .vmem S32x4x8x128 .i32) (h3 : a3.IsWhole) (a4 : Memref sig .tc .vmem S1536x512 .f32) (h4 : a4.IsWhole)
    (a5 : Memref sig .tc .vmem S1536x512 .bf16) (h5 : a5.IsWhole) (a6 : Memref sig .tc .vmem S1536x512 .f32) (h6 : a6.IsWhole)
    (hc0 : ¬cond1_0 i) (hc1 : ¬cond1_1 i)
    (x0 : Vec Ideal S1536x512 .bf16) (x1 : Vec Ideal S32x4x8x128 .i32) (x2 : Vec Ideal S1536x512 .f32) (xo : Vec Ideal S1536x512 .f32) :
    out1_B_4 (F := Ideal) c i a2 h2 a3 h3 a4 h4 a5 h5 a6 h6 hc0 hc1 x0 x1 x2 xo = stepS x0 x1 xo := by
  rw [out1_B]
  funext y
  exact View.canon_append_of_piecesOf (stepS x0 x1 xo) [] [_, _]
    ⟨sHalf_step x0 x1 xo 256 2 3 rfl rfl _ _ _, sHalf_step x0 x1 xo 0 0 1 rfl rfl _ _ _, trivial⟩ y (cover2 _ _ y)

theorem out1_C_step (c : Dev nD) (i : grid1.Coords) (a2 : Memref sig .tc .vmem S1536x512 .bf16) (h2 : a2.IsWhole)
    (a3 : Memref sig .tc .vmem S32x4x8x128 .i32) (h3 : a3.IsWhole) (a4 : Memref sig .tc .vmem S1536x512 .f32) (h4 : a4.IsWhole)
    (a5 : Memref sig .tc .vmem S1536x512 .bf16) (h5 : a5.IsWhole) (a6 : Memref sig .tc .vmem S1536x512 .f32) (h6 : a6.IsWhole)
    (hc0 : ¬cond1_0 i) (hc1 : cond1_1 i)
    (x0 : Vec Ideal S1536x512 .bf16) (x1 : Vec Ideal S32x4x8x128 .i32) (x2 : Vec Ideal S1536x512 .f32) (xo : Vec Ideal S1536x512 .f32) :
    out1_C_4 (F := Ideal) c i a2 h2 a3 h3 a4 h4 a5 h5 a6 h6 hc0 hc1 x0 x1 x2 xo = stepS x0 x1 xo := by
  rw [out1_C]
  funext y
  exact View.canon_append_of_piecesOf (stepS x0 x1 xo) [] [_, _]
    ⟨sHalf_step x0 x1 xo 256 2 3 rfl rfl _ _ _, sHalf_step x0 x1 xo 0 0 1 rfl rfl _ _ _, trivial⟩ y (cover2 _ _ y)

theorem out1_A_step (c : Dev nD) (i : grid1.Coords) (a2 : Memref sig .tc .vmem S1536x512 .bf16) (h2 : a2.IsWhole)
    (a3 : Memref sig .tc .vmem S32x4x8x128 .i32) (h3 : a3.IsWhole) (a4 : Memref sig .tc .vmem S1536x512 .f32) (h4 : a4.IsWhole)
    (a5 : Memref sig .tc .vmem S1536x512 .bf16) (h5 : a5.IsWhole) (a6 : Memref sig .tc .vmem S1536x512 .f32) (h6 : a6.IsWhole)
    (hc0 : cond1_0 i) (hc1 : ¬cond1_1 i)
    (x0 : Vec Ideal S1536x512 .bf16) (x1 : Vec Ideal S32x4x8x128 .i32) (x2 : Vec Ideal S1536x512 .f32) :
    out1_A_4 (F := Ideal) c i a2 h2 a3 h3 a4 h4 a5 h5 a6 h6 hc0 hc1 x0 x1 x2 = stepS x0 x1 (fun _ => 0) := by
  have hz0 : (k1_pay3 (F := Ideal)) = fun _ => (0 : EReal) := funext fun _ => Ideal.ofBits_zero_f32
  rw [out1_A, hz0]
  funext y
  exact View.canon_append_of_piecesOf (stepS x0 x1 fun _ => 0) [_] [_, _]
    ⟨sHalf_step x0 x1 _ 256 2 3 rfl rfl _ _ _, sHalf_step x0 x1 _ 0 0 1 rfl rfl _ _ _, trivial⟩ y (cover2 _ _ y)

end Cert.KernelIdeal.Value
-- ==== Proof.DenseArray.lean ====
module

public import proofs.«01_k».proof.Proof.DenseStep
public import Idealize.ShloMosaic.Lib.Pipeline.ValueKit.Geometry

@[expose] public section
set_option maxRecDepth 16384
noncomputable section
open Idealize.ShloMosaic Idealize.ShloMosaic.TcCoe Idealize.SL.Sem
namespace Cert.KernelIdeal.Value
open Cert.KernelIdeal Cert.KernelIdeal.Gen

/-- Row `m` of `x` times a column of weights, one product; zero past the last row of weights. -/
def term (X : S1536x18944.Idx → EReal) (W : Fin 18944 → EReal) (m : Fin 1536) (k : ℕ) : EReal :=
  if h : k < 18944 then X (ix2 m ⟨k, h⟩) * W ⟨k, h⟩ else 0

/-- The decoded weight matrix: row `k`, column `n`. -/
def wD (C : IVec S9472x3584 8) (T : IVec S8x3584 32) (n : Fin 3584) (k : Fin 18944) : EReal :=
  Ideal.ofBits .bf16 (wbits (C (ix2 ⟨k.val / 2, by omega⟩ n)) (k.val % 2) (fun q => T (ix2 q n)))

variable (V : (c : Dev nD) → (b : Ref sig .tc) → Buf (Elt Ideal) ((c : Thread nD τ).loc b))

/-- Which block each window is at, point by point: the row of points is the column block, the place in it the row block. -/
theorem index0 : ∀ t : Fin grid0.N, win0_0.index t = ![0, t.val % 37] ∧ win0_1.index t = ![t.val % 37, t.val / 37]
    ∧ win0_2.index t = ![0, t.val / 37] ∧ win0_3.index t = ![0, t.val / 37] := by
  decide +kernel

theorem iblk0_x (c : Dev nD) (t : Fin cfg0.N) (m : Fin 1536) (r : Fin 512) (k : Fin 18944) (hk : k.val = t.val % 37 * 512 + r.val) :
    (iblk0 V c 0 t : Vec Ideal S1536x512 .bf16) (ix2 m r) = (V c main_v0 : Vec Ideal S1536x18944 .bf16) (ix2 m k) := by
  have h := (index0 t).1
  blk_simp [iblk0]
  refine congrArg (V c main_v0) (funext fun a => Fin.ext ?_)
  match a with
  | ⟨0, _⟩ => blk_simp [h]
  | ⟨1, _⟩ => blk_simp [h]; exact hk.symm

theorem iblk0_c (c : Dev nD) (t : Fin cfg0.N) (m : Fin 256) (l : Fin 512) (k : Fin 9472) (hk : k.val = t.val % 37 * 256 + m.val)
    (n : Fin 3584) (hn : n.val = t.val / 37 * 512 + l.val) :
    (iblk0 V c 1 t : Vec Ideal S256x512 .i8) (ix2 m l) = (V c main_arg1 : Vec Ideal S9472x3584 .i8) (ix2 k n) := by
  have h := (index0 t).2.1
  blk_simp [iblk0]
  refine congrArg (V c main_arg1) (funext fun a => Fin.ext ?_)
  match a with
  | ⟨0, _⟩ => blk_simp [h]; exact hk.symm
  | ⟨1, _⟩ => blk_simp [h]; exact hn.symm

theorem iblk0_t (c : Dev nD) (t : Fin cfg0.N) (q : Fin 8) (l : Fin 512) (n : Fin 3584) (hn : n.val = t.val / 37 * 512 + l.val) :
    (iblk0 V c 2 t : Vec Ideal S8x512 .i32) (ix2 q l) = (V c main_v7 : Vec Ideal S8x3584 .i32) (ix2 q n) := by
  have h := (index0 t).2.2.1
  blk_simp [iblk0]
  refine congrArg (V c main_v7) (funext fun a => Fin.ext ?_)
  match a with
  | ⟨0, _⟩ => blk_simp [h]
  | ⟨1, _⟩ => blk_simp [h]; exact hn.symm

/-- The product of row `m` of `x` with column `n` of the decoded weights, term `k`. -/
abbrev termD (c : Dev nD) (m : Fin 1536) (n : Fin 3584) (k : ℕ) : EReal :=
  term (V c main_v0) (wD (V c main_arg1) (V c main_v7) n) m k

theorem lt259 (t : Fin cfg0.N) : t.val < 259 := lt_of_lt_of_eq t.isLt (show cfg0.N = 259 from N_0)

/-- The column of the whole array a block's column is. -/
def col0 (t : Fin cfg0.N) (l : Fin 512) : Fin 3584 := ⟨t.val / 37 * 512 + l.val, by have := lt259 t; omega⟩

/-- One step adds the 512 terms of its row block. -/
theorem stepD_blk (c : Dev nD) (t : Fin cfg0.N) (acc : Vec Ideal S1536x512 .f32) (m : Fin 1536) (l : Fin 512) :
    stepD (iblk0 V c 0 t) (iblk0 V c 1 t) (iblk0 V c 2 t) acc (ix2 m l)
      = acc (ix2 m l) + ∑ r ∈ Finset.range 512, termD V c m (col0 t l) (t.val % 37 * 512 + r) := by
  unfold stepD
  rw [Finset.sum_range]
  refine congrArg _ (Finset.sum_congr rfl fun r _ => ?_)
  have hk : t.val % 37 * 512 + r.val < 18944 := by omega
  unfold termD term
  rw [dif_pos hk]
  refine congrArg₂ (· * ·) (iblk0_x V c t m r ⟨_, hk⟩ rfl) ?_
  unfold wblk wD
  refine congrArg (Ideal.ofBits .bf16) ?_
  rw [show (t.val % 37 * 512 + r.val) % 2 = r.val % 2 by omega]
  refine congrArg₂ (fun c t => wbits c (r.val % 2) t) ?_ (funext fun q => ?_)
  · exact iblk0_c V c t _ l _ (by dsimp only; omega) _ rfl
  · exact iblk0_t V c t q l _ rfl

/-- What the accumulator holds after a point: the terms of the row blocks so far. -/
theorem outsAt0_eq (c : Dev nD) : ∀ (n : ℕ) (h : n < cfg0.N) (m : Fin 1536) (l : Fin 512),
    outsAt0 V c n h (ix2 m l) = ∑ k ∈ Finset.range ((n % 37 + 1) * 512), termD V c m (col0 ⟨n, h⟩ l) k := by
  intro n
  induction n with
  | zero =>
    intro h m l
    rw [outsAt0_A V c ⟨0, h⟩ rfl, out_A_step, stepD_blk]
    simp
  | succ n ih =>
    intro h m l
    have hN : n + 1 < 259 := lt259 ⟨n + 1, h⟩
    by_cases h0 : (n + 1) % 37 = 0
    · rw [outsAt0_A V c ⟨n + 1, h⟩ h0, out_A_step, stepD_blk]
      simp [h0]
    · rw [outsAt0_B V c ⟨n + 1, h⟩ h0, out_B_step, stepD_blk]
      have e : (n + 1) % 37 = n % 37 + 1 := by omega
      have ec : col0 ⟨n, Nat.lt_of_succ_lt h⟩ l = col0 ⟨n + 1, h⟩ l := Fin.ext (by unfold col0; dsimp only; omega)
      have := ih (Nat.lt_of_succ_lt h) m l
      rw [ec] at this
      rw [show outsAt0 V c ((⟨n + 1, h⟩ : Fin cfg0.N).val - 1) _ (ix2 m l) = _ from this, e,
        show (n % 37 + 1 + 1) * 512 = (n % 37 + 1) * 512 + 512 by omega, Finset.sum_range_add]

/-- The dense product, whole: row `m`, column `n`. -/
def denseOf (c : Dev nD) : Vec Ideal S1536x3584 .f32 := fun y =>
  ∑ k ∈ Finset.range 18944, termD V c (y 0) (y 1) k

/-- The dense call's result array. -/
theorem final0 (c : Dev nD) : (dat0 V c).arrAt 3 cfg0.N = denseOf V c := by
  refine (dat0 V c).arrAt_eq_of_covers 3 _ (by decide +kernel) fun t hf y => ?_
  blk_simp
  rw [after0_3]
  have h36 := (flush0_3 t).mp hf
  have hi := (index0 t).2.2.2
  obtain ⟨m, l, rfl⟩ : ∃ (m : Fin 1536) (l : Fin 512), y = ix2 m l :=
    ⟨y 0, y 1, by funext a; match a with | ⟨0, _⟩ => rfl | ⟨1, _⟩ => rfl⟩
  have he : (win0_3.blk t).view.emb (ix2 m l) = (ix2 m (col0 t l) : S1536x3584.Idx) := by
    refine funext fun a => Fin.ext ?_
    match a with
    | ⟨0, _⟩ => blk_simp [hi]
    | ⟨1, _⟩ => blk_simp [hi]; rfl
  refine (outsAt0_eq V c t.val t.isLt m l).trans ?_
  rw [h36]
  exact (congrArg (denseOf V c) he).symm

end Cert.KernelIdeal.Value
-- ==== Proof.SparseArray.lean ====
module

public import proofs.«01_k».proof.Proof.SparseStep
public import proofs.«01_k».proof.Proof.DenseArray

@[expose] public section
set_option maxRecDepth 16384
noncomputable section
open Idealize.ShloMosaic Idealize.ShloMosaic.TcCoe Idealize.SL.Sem
namespace Cert.KernelIdeal.Value
open Cert.KernelIdeal Cert.KernelIdeal.Gen

/-- The sparse weight matrix out of its words: row `k`, column `n`. -/
def wS (W : IVec S1184x28x8x128 32) (n : Fin 3584) (k : Fin 18944) : EReal :=
  Ideal.ofBits .bf16 ((W (ix4 ⟨k.val / 16, by omega⟩ ⟨n.val / 128, by omega⟩ ⟨k.val / 2 % 8, by omega⟩ ⟨n.val % 128, by omega⟩)).extractLsb' (16 * (k.val % 2)) 16)

variable (V : (c : Dev nD) → (b : Ref sig .tc) → Buf (Elt Ideal) ((c : Thread nD τ).loc b))

/-- Which block each window is at, point by point. -/
theorem index1 : ∀ t : Fin grid1.N, win1_0.index t = ![0, t.val % 37] ∧ win1_1.index t = ![t.val % 37, t.val / 37, 0, 0]
    ∧ win1_2.index t = ![0, t.val / 37] ∧ win1_3.index t = ![0, t.val / 37] ∧ win1_4.index t = ![0, t.val / 37] := by
  decide +kernel

theorem iblk1_x (c : Dev nD) (t : Fin cfg1.N) (m : Fin 1536) (r : Fin 512) (k : Fin 18944) (hk : k.val = t.val % 37 * 512 + r.val) :
    (iblk1 V c 0 t : Vec Ideal S1536x512 .bf16) (ix2 m r) = (V c main_v0 : Vec Ideal S1536x18944 .bf16) (ix2 m k) := by
  have h := (index1 t).1
  blk_simp [iblk1]
  refine congrArg (V c main_v0) (funext fun a => Fin.ext ?_)
  match a with
  | ⟨0, _⟩ => blk_simp [h]
  | ⟨1, _⟩ => blk_simp [h]; exact hk.symm

theorem iblk1_w (c : Dev nD) (t : Fin cfg1.N) (a0 : Fin 32) (a1 : Fin 4) (a2 : Fin 8) (a3 : Fin 128)
    (b0 : Fin 1184) (b1 : Fin 28) (h0 : b0.val = t.val % 37 * 32 + a0.val) (h1 : b1.val = t.val / 37 * 4 + a1.val) :
    (iblk1 V c 1 t : Vec Ideal S32x4x8x128 .i32) (ix4 a0 a1 a2 a3) = (V c main_v9 : Vec Ideal S1184x28x8x128 .i32) (ix4 b0 b1 a2 a3) := by
  have h := (index1 t).2.1
  blk_simp [iblk1]
  refine congrArg (V c main_v9) (funext fun a => Fin.ext ?_)
  match a with
  | ⟨0, _⟩ => blk_simp [h]; exact h0.symm
  | ⟨1, _⟩ => blk_simp [h]; exact h1.symm
  | ⟨2, _⟩ => blk_simp [h]
  | ⟨3, _⟩ => blk_simp [h]

theorem iblk1_y (c : Dev nD) (t : Fin cfg1.N) (m : Fin 1536) (l : Fin 512) (n : Fin 3584) (hn : n.val = t.val / 37 * 512 + l.val) :
    (iblk1 V c 2 t : Vec Ideal S1536x512 .f32) (ix2 m l) = (V c main_v8 : Vec Ideal S1536x3584 .f32) (ix2 m n) := by
  have h := (index1 t).2.2.1
  blk_simp [iblk1]
  refine congrArg (V c main_v8) (funext fun a => Fin.ext ?_)
  match a with
  | ⟨0, _⟩ => blk_simp [h]
  | ⟨1, _⟩ => blk_simp [h]; exact hn.symm

/-- The product of row `m` of `x` with column `n` of the sparse weights, term `k`. -/
abbrev termS (c : Dev nD) (m : Fin 1536) (n : Fin 3584) (k : ℕ) : EReal :=
  term (V c main_v0) (wS (V c main_v9) n) m k

theorem lt259' (t : Fin cfg1.N) : t.val < 259 := lt_of_lt_of_eq t.isLt (show cfg1.N = 259 from N_1)

/-- The column of the whole array a block's column is. -/
def col1 (t : Fin cfg1.N) (l : Fin 512) : Fin 3584 := ⟨t.val / 37 * 512 + l.val, by have := lt259' t; omega⟩

/-- One step adds the 512 terms of its row block. -/
theorem stepS_blk (c : Dev nD) (t : Fin cfg1.N) (acc : Vec Ideal S1536x512 .f32) (m : Fin 1536) (l : Fin 512) :
    stepS (iblk1 V c 0 t) (iblk1 V c 1 t) acc (ix2 m l)
      = acc (ix2 m l) + ∑ r ∈ Finset.range 512, termS V c m (col1 t l) (t.val % 37 * 512 + r) := by
  unfold stepS
  rw [Finset.sum_range]
  refine congrArg _ (Finset.sum_congr rfl fun r _ => ?_)
  have hk : t.val % 37 * 512 + r.val < 18944 := by omega
  unfold termS term
  rw [dif_pos hk]
  refine congrArg₂ (· * ·) (iblk1_x V c t m r ⟨_, hk⟩ rfl) ?_
  unfold wblkS wS
  refine congrArg (Ideal.ofBits .bf16) ?_
  dsimp only
  rw [show (t.val % 37 * 512 + r.val) % 2 = r.val % 2 by omega]
  refine congrArg (BitVec.extractLsb' (16 * (r.val % 2)) 16) ?_
  have e2 : (⟨r.val / 2 % 8, by omega⟩ : Fin 8) = ⟨(t.val % 37 * 512 + r.val) / 2 % 8, by omega⟩ := Fin.ext (by dsimp only; omega)
  have e3 : (⟨(ix2 m l : S1536x512.Idx) 1 % 128, by omega⟩ : Fin 128) = ⟨(col1 t l).val % 128, by omega⟩ := Fin.ext (by
    show l.val % 128 = (t.val / 37 * 512 + l.val) % 128; omega)
  refine (iblk1_w V c t _ _ _ _ ⟨(t.val % 37 * 512 + r.val) / 16, by omega⟩ ⟨(col1 t l).val / 128, by omega⟩ ?_ ?_).trans ?_
  · dsimp only; omega
  · show (t.val / 37 * 512 + l.val) / 128 = t.val / 37 * 4 + l.val / 128; omega
  · rw [e2, e3]

/-- The first point of a column block starts from zero. -/
theorem outs1_first (c : Dev nD) (t : Fin cfg1.N) (h0 : t.val % 37 = 0) :
    (outsAt1 V c t.val t.isLt).2 = stepS (iblk1 V c 0 t) (iblk1 V c 1 t) (fun _ => 0) := by
  rw [outsAt1_A V c t h0 (by omega)]
  dsimp only
  rw [out1_A_step]

/-- A later point goes on from the point before. -/
theorem outs1_next (c : Dev nD) (t : Fin cfg1.N) (h0 : ¬t.val % 37 = 0) :
    (outsAt1 V c t.val t.isLt).2 = stepS (iblk1 V c 0 t) (iblk1 V c 1 t)
      (outsAt1 V c (t.val - 1) (Nat.lt_of_le_of_lt (Nat.sub_le _ _) t.isLt)).2 := by
  by_cases h1 : t.val % 37 = 36
  · rw [outsAt1_C V c t h0 h1]
    dsimp only
    rw [out1_C_step]
  · rw [outsAt1_B V c t h0 h1]
    dsimp only
    rw [out1_B_step]

/-- What the accumulator holds after a point: the terms of the row blocks so far. -/
theorem outsAt1_eq (c : Dev nD) : ∀ (n : ℕ) (h : n < cfg1.N) (m : Fin 1536) (l : Fin 512),
    (outsAt1 V c n h).2 (ix2 m l) = ∑ k ∈ Finset.range ((n % 37 + 1) * 512), termS V c m (col1 ⟨n, h⟩ l) k := by
  intro n
  induction n with
  | zero =>
    intro h m l
    rw [outs1_first V c ⟨0, h⟩ rfl, stepS_blk]
    simp
  | succ n ih =>
    intro h m l
    have hN : n + 1 < 259 := lt259' ⟨n + 1, h⟩
    by_cases h0 : (n + 1) % 37 = 0
    · rw [outs1_first V c ⟨n + 1, h⟩ h0, stepS_blk]
      simp [h0]
    · have e : (n + 1) % 37 = n % 37 + 1 := by omega
      have ec : col1 ⟨n, Nat.lt_of_succ_lt h⟩ l = col1 ⟨n + 1, h⟩ l := Fin.ext (by unfold col1; dsimp only; omega)
      have := ih (Nat.lt_of_succ_lt h) m l
      rw [ec] at this
      rw [outs1_next V c ⟨n + 1, h⟩ h0, stepS_blk]
      rw [show (outsAt1 V c ((⟨n + 1, h⟩ : Fin cfg1.N).val - 1) _).2 (ix2 m l) = _ from this, e,
        show (n % 37 + 1 + 1) * 512 = (n % 37 + 1) * 512 + 512 by omega, Finset.sum_range_add]

/-- The sparse product, whole: row `m`, column `n`. -/
def sparseOf (c : Dev nD) : Vec Ideal S1536x3584 .f32 := fun y =>
  ∑ k ∈ Finset.range 18944, termS V c (y 0) (y 1) k

/-- The place of a result block's element in the whole array. -/
theorem emb1_4 (t : Fin cfg1.N) (m : Fin 1536) (l : Fin 512) :
    (win1_4.blk t).view.emb (ix2 m l) = (ix2 m (col1 t l) : S1536x3584.Idx) := by
  have hi := (index1 t).2.2.2.2
  refine funext fun a => Fin.ext ?_
  match a with
  | ⟨0, _⟩ => blk_simp [hi]
  | ⟨1, _⟩ => blk_simp [hi]; rfl

theorem emb1_3 (t : Fin cfg1.N) (m : Fin 1536) (l : Fin 512) :
    (win1_3.blk t).view.emb (ix2 m l) = (ix2 m (col1 t l) : S1536x3584.Idx) := by
  have hi := (index1 t).2.2.2.1
  refine funext fun a => Fin.ext ?_
  match a with
  | ⟨0, _⟩ => blk_simp [hi]
  | ⟨1, _⟩ => blk_simp [hi]; rfl

/-- The sparse call's second result array: the sparse product. -/
theorem final1_4 (c : Dev nD) : (dat1 V c).arrAt 4 cfg1.N = sparseOf V c := by
  refine (dat1 V c).arrAt_eq_of_covers 4 _ (by decide +kernel) fun t hf y => ?_
  blk_simp
  rw [after1_4]
  have h36 := (flush1_4 t).mp hf
  obtain ⟨m, l, rfl⟩ : ∃ (m : Fin 1536) (l : Fin 512), y = ix2 m l :=
    ⟨y 0, y 1, by funext a; match a with | ⟨0, _⟩ => rfl | ⟨1, _⟩ => rfl⟩
  refine (outsAt1_eq V c t.val t.isLt m l).trans ?_
  rw [h36]
  exact (congrArg (sparseOf V c) (emb1_4 t m l)).symm

/-- The sum of the dense array and the sparse product. -/
def sumOf (c : Dev nD) : Vec Ideal S1536x3584 .bf16 := fun y => @HAdd.hAdd EReal EReal EReal _ ((V c main_v8 : Vec Ideal S1536x3584 .f32) y) (sparseOf V c y)

/-- The sparse call's first result array: that sum. -/
theorem final1_3 (c : Dev nD) : (dat1 V c).arrAt 3 cfg1.N = sumOf V c := by
  refine (dat1 V c).arrAt_eq_of_covers 3 _ (by decide +kernel) fun t hf y => ?_
  blk_simp
  rw [after1_3]
  have h36 := (flush1_3 t).mp hf
  obtain ⟨m, l, rfl⟩ : ∃ (m : Fin 1536) (l : Fin 512), y = ix2 m l :=
    ⟨y 0, y 1, by funext a; match a with | ⟨0, _⟩ => rfl | ⟨1, _⟩ => rfl⟩
  have h1 := congrArg Prod.fst (outsAt1_C V c t (by omega) h36)
  have h2 := congrArg Prod.snd (outsAt1_C V c t (by omega) h36)
  dsimp only at h1 h2
  rw [out1_C_y, ← h2] at h1
  refine (congrFun h1 (ix2 m l)).trans ?_
  show @HAdd.hAdd EReal EReal EReal _ ((iblk1 V c 2 t : Vec Ideal S1536x512 .f32) (ix2 m l)) ((outsAt1 V c t.val t.isLt).2 (ix2 m l)) = _
  rw [iblk1_y V c t m l (col1 t l) rfl, outsAt1_eq V c t.val t.isLt m l, h36]
  exact (congrArg (sumOf V c) (emb1_3 t m l)).symm

end Cert.KernelIdeal.Value
-- ==== Proof.RefValue.lean ====
module

public import proofs.«01_k».proof.Proof.SparseArray
public import proofs.«01_k».proof.Proof.Gen.ReferenceIdeal.Run
public import proofs.«01_k».proof.Proof.Gen.ReferenceIdeal.Read

@[expose] public section
set_option maxRecDepth 16384
noncomputable section
open Idealize.ShloMosaic Idealize.ShloMosaic.TcCoe Idealize.SL.Sem
namespace Cert.ReferenceIdeal.Value
open Cert.ReferenceIdeal Cert.ReferenceIdeal.Gen Cert.ReferenceIdeal.Read
open Cert.KernelIdeal.Value (nib wS)

/-- Bit `b` of a code, as the reference tests it. -/
def bitOf (x : BitVec 32) (b : BitVec 32) : BitVec 1 := IntOp.cmpi .ne (IntOp.andi (IntOp.shrsi .host x b) 1#32) 0#32

/-- The reference's select tree over sixteen values: bit 0 first. -/
def tree (L : ℕ → EReal) (x : BitVec 32) : EReal :=
  let c0 := bitOf x 0#32
  let c1 := bitOf x 1#32
  let c2 := bitOf x 2#32
  let c3 := bitOf x 3#32
  let a (i : ℕ) := Scalar.select c0 (L (2 * i + 1)) (L (2 * i))
  let b (i : ℕ) := Scalar.select c1 (a (2 * i + 1)) (a (2 * i))
  let d (i : ℕ) := Scalar.select c2 (b (2 * i + 1)) (b (2 * i))
  Scalar.select c3 (d 1) (d 0)

theorem bits_small : ∀ k : Fin 16, bitOf (BitVec.ofNat 32 k.val) 0#32 = BitVec.ofBool (k.val.testBit 0)
    ∧ bitOf (BitVec.ofNat 32 k.val) 1#32 = BitVec.ofBool (k.val.testBit 1)
    ∧ bitOf (BitVec.ofNat 32 k.val) 2#32 = BitVec.ofBool (k.val.testBit 2)
    ∧ bitOf (BitVec.ofNat 32 k.val) 3#32 = BitVec.ofBool (k.val.testBit 3) := by
  decide +kernel

/-- On a code below sixteen the tree picks that value. -/
theorem tree_small (L : ℕ → EReal) (k : Fin 16) : tree L (BitVec.ofNat 32 k.val) = L k.val := by
  obtain ⟨h0, h1, h2, h3⟩ := bits_small k
  unfold tree
  rw [h0, h1, h2, h3]
  obtain ⟨k, hk⟩ := k
  dsimp only
  interval_cases k <;> rfl

theorem lo_code : ∀ c : BitVec 8, IntOp.andi (c.setWidth 32) 15#32 = BitVec.ofNat 32 (nib c 0) := by decide +kernel
theorem hi_code : ∀ c : BitVec 8, IntOp.shrsi .host (c.setWidth 32) 4#32 = BitVec.ofNat 32 (nib c 1) := by decide +kernel
theorem nib_lt16 (c : BitVec 8) (p : ℕ) : nib c p < 16 := Nat.mod_lt _ (by decide)

theorem tree_lo (L : ℕ → EReal) (c : BitVec 8) : tree L (IntOp.andi (c.setWidth 32) 15#32) = L (nib c 0) := by
  rw [lo_code]; exact tree_small L ⟨_, nib_lt16 c 0⟩
theorem tree_hi (L : ℕ → EReal) (c : BitVec 8) : tree L (IntOp.shrsi .host (c.setWidth 32) 4#32) = L (nib c 1) := by
  rw [hi_code]; exact tree_small L ⟨_, nib_lt16 c 1⟩

/-- Entry `q` of the codebook of output row `n`. -/
def lutV (x2 : IVec S3584x16 16) (n : Fin 3584) (q : ℕ) : EReal :=
  if h : q < 16 then Ideal.ofBits .bf16 (x2 (ix2 n ⟨q, h⟩)) else 0

variable (x1 : IVec S9472x3584 8) (x2 : IVec S3584x16 16) (r : Fin 9472) (n : Fin 3584)

theorem slices_col (q : ℕ) (h : q < 16) : S3584x16.Slices ![0, q] S3584x1 := by
  refine ⟨rfl, fun a => ?_⟩
  match a with
  | ⟨0, _⟩ => show 0 + 3584 ≤ 3584; omega
  | ⟨1, _⟩ => show q + 1 ≤ 16; omega

/-- Codebook column `q` as the reference's select tree reads it: cut out, flattened, broadcast over the rows. -/
def colV (q : ℕ) : EReal :=
  if h : q < 16 then broadcastInDim S9472x3584 ![0, 1] bcast_S1x3584_S9472x3584_0_1 (broadcastInDim S1x3584 ![1] bcast_S3584_S1x3584_1
    (shapeCast S3584 (extractStridedSlice S3584x1 ![0, q] (val_main_v0 (F := Ideal) x2) (slices_col q h)) shapeCasts_S3584x1_S3584)) (ix2 r n)
  else 0

/-- It is the codebook's entry. -/
theorem colV_eq : colV x2 r n = lutV x2 n := by
  funext q
  unfold colV lutV
  split
  · rename_i h
    refine (shapeCast_apply _ shapeCasts_S3584x1_S3584 _ (ix2 n 0) ?_).trans (congrArg (val_main_v0 (F := Ideal) x2) (funext fun a => ?_))
    · rw [Shape.rowMajor_val_two, Shape.rowMajor_val_one]
      show n.val * 1 + 0 = n.val
      omega
    · match a with
      | ⟨0, _⟩ => refine Fin.ext ?_; show 0 + n.val = n.val; omega
      | ⟨1, _⟩ => rfl
  · rfl

/-- The reference's decoded weights of the low codes. -/
theorem dec_lo : val_main_v96 (F := Ideal) x1 x2 (ix2 r n) = lutV x2 n (nib (x1 (ix2 r n)) 0) := by
  rw [← colV_eq x2 r n]
  refine Eq.trans ?_ (tree_lo (colV x2 r n) (x1 (ix2 r n)))
  rfl

/-- The reference's decoded weights of the high codes. -/
theorem dec_hi : val_main_v187 (F := Ideal) x1 x2 (ix2 r n) = lutV x2 n (nib (x1 (ix2 r n)) 1) := by
  rw [← colV_eq x2 r n]
  refine Eq.trans ?_ (tree_hi (colV x2 r n) (x1 (ix2 r n)))
  rfl

/-- The reference's sparse weights. -/
theorem sparse_w (x3 : IVec S1184x28672 32) (k : Fin 18944) : val_main_v198 (F := Ideal) x3 (ix2 k n) = wS (val_main_v193 (F := Ideal) x3) n k := by
  rw [val_main_v198_apply, val_main_v197_apply]
  show Ideal.ofBits .bf16 ((val_main_v195 (F := Ideal) x3 _).extractLsb' ((((k.val * 3584 + n.val) / 3584 % 2)) * 16) 16) = _
  rw [val_main_v195_apply, val_main_v194_apply, wS, show (k.val * 3584 + n.val) / 3584 % 2 * 16 = 16 * (k.val % 2) by omega]
  refine congrArg (fun z => Ideal.ofBits .bf16 ((val_main_v193 (F := Ideal) x3 z).extractLsb' (16 * (k.val % 2)) 16)) (funext fun a => ?_)
  match a with
  | ⟨0, _⟩ => refine Fin.ext ?_; show ((k.val * 3584 + n.val) / 7168 * 3584 + (k.val * 3584 + n.val) % 3584) / 28672 = k.val / 16; omega
  | ⟨1, _⟩ => refine Fin.ext ?_; show ((k.val * 3584 + n.val) / 7168 * 3584 + (k.val * 3584 + n.val) % 3584) / 128 % 28 = n.val / 128; omega
  | ⟨2, _⟩ => refine Fin.ext ?_; show ((k.val * 3584 + n.val) / 7168 * 3584 + (k.val * 3584 + n.val) % 3584) / 3584 % 8 = k.val / 2 % 8; omega
  | ⟨3, _⟩ => refine Fin.ext ?_; show ((k.val * 3584 + n.val) / 7168 * 3584 + (k.val * 3584 + n.val) % 3584) % 128 = n.val % 128; omega

variable (x0 : Vec Ideal S4x384x18944 .bf16) (x3 : IVec S1184x28672 32) (b : Fin 4) (s : Fin 384)

/-- The reference's sparse result, at an index. -/
theorem ref_sparse : val_main_v199 (F := Ideal) x0 x3 (ix3 b s n) = ∑ k : Fin 18944, x0 (ix3 b s k) * wS (val_main_v193 (F := Ideal) x3) n k := by
  rw [val_main_v199_apply]
  refine Finset.sum_congr rfl fun k _ => congrArg₂ (· * ·) (congrArg x0 ?_) ((congrArg (val_main_v198 (F := Ideal) x3) ?_).trans (sparse_w n x3 k))
  · funext a; match a with | ⟨0, _⟩ => rfl | ⟨1, _⟩ => rfl | ⟨2, _⟩ => rfl
  · funext a; match a with | ⟨0, _⟩ => rfl | ⟨1, _⟩ => rfl

/-- The reference's first dense product: even columns of `x` against the low codes' weights. -/
theorem ref_even : val_main_v189 (F := Ideal) x0 x1 x2 (ix3 b s n)
    = ∑ r : Fin 9472, x0 (ix3 b s ⟨2 * r.val, by omega⟩) * lutV x2 n (nib (x1 (ix2 r n)) 0) := by
  rw [val_main_v189_apply]
  refine Finset.sum_congr rfl fun r _ => congrArg₂ (· * ·) (congrArg x0 ?_) ((congrArg (val_main_v96 (F := Ideal) x1 x2) ?_).trans (dec_lo x1 x2 r n))
  · funext a
    match a with
    | ⟨0, _⟩ => refine Fin.ext ?_; show 0 + 1 * b.val = b.val; omega
    | ⟨1, _⟩ => refine Fin.ext ?_; show 0 + 1 * s.val = s.val; omega
    | ⟨2, _⟩ => refine Fin.ext ?_; show 0 + 2 * r.val = 2 * r.val; omega
  · funext a; match a with | ⟨0, _⟩ => rfl | ⟨1, _⟩ => rfl

/-- The second: odd columns against the high codes' weights. -/
theorem ref_odd : val_main_v191 (F := Ideal) x0 x1 x2 (ix3 b s n)
    = ∑ r : Fin 9472, x0 (ix3 b s ⟨2 * r.val + 1, by omega⟩) * lutV x2 n (nib (x1 (ix2 r n)) 1) := by
  rw [val_main_v191_apply]
  refine Finset.sum_congr rfl fun r _ => congrArg₂ (· * ·) (congrArg x0 ?_) ((congrArg (val_main_v187 (F := Ideal) x1 x2) ?_).trans (dec_hi x1 x2 r n))
  · funext a
    match a with
    | ⟨0, _⟩ => refine Fin.ext ?_; show 0 + 1 * b.val = b.val; omega
    | ⟨1, _⟩ => refine Fin.ext ?_; show 0 + 1 * s.val = s.val; omega
    | ⟨2, _⟩ => refine Fin.ext ?_; show 1 + 2 * r.val = 2 * r.val + 1; omega
  · funext a; match a with | ⟨0, _⟩ => rfl | ⟨1, _⟩ => rfl

/-- The reference's first result, at an index. -/
theorem ref_y : val_main_v201 (F := Ideal) x0 x1 x2 x3 (ix3 b s n)
    = @HAdd.hAdd EReal EReal EReal _ ((∑ r : Fin 9472, x0 (ix3 b s ⟨2 * r.val, by omega⟩) * lutV x2 n (nib (x1 (ix2 r n)) 0))
        + ∑ r : Fin 9472, x0 (ix3 b s ⟨2 * r.val + 1, by omega⟩) * lutV x2 n (nib (x1 (ix2 r n)) 1))
      (∑ k : Fin 18944, x0 (ix3 b s k) * wS (val_main_v193 (F := Ideal) x3) n k) := by
  rw [← ref_even, ← ref_odd, ← ref_sparse]
  rfl

end Cert.ReferenceIdeal.Value
-- ==== Proof.HostValue.lean ====
module

public import proofs.«01_k».proof.Proof.SparseArray

@[expose] public section
set_option maxRecDepth 16384
noncomputable section
open Idealize.ShloMosaic Idealize.ShloMosaic.TcCoe Idealize.ShloMosaic.StableHlo Idealize.SL.Sem
namespace Cert.KernelIdeal.Value
open Cert.KernelIdeal Cert.KernelIdeal.Gen

variable (m : (ℓ : Loc nD τ sig) → Buf (Elt Ideal) ℓ) (ρ : Dev nD → PrngReg) (c : Dev nD)

/-- The four arguments. -/
abbrev xArg : Vec Ideal S4x384x18944 .bf16 := m ((c : Thread nD τ).loc main_arg0)
abbrev cArg : IVec S9472x3584 8 := m ((c : Thread nD τ).loc main_arg1)
abbrev lArg : IVec S3584x16 16 := m ((c : Thread nD τ).loc main_arg2)
abbrev sArg : IVec S1184x28672 32 := m ((c : Thread nD τ).loc main_arg3)

/-- The word table the host builds: each row two neighbouring codebook entries. -/
def tabOf (l : IVec S3584x16 16) : IVec S8x3584 32 :=
  transpose S8x3584 [1, 0]
    (ori (Host.slice S3584x8 ![0, 0] ![1, 2] (extui 32 l natLt_16_32) slicesBy_S3584x16_S3584x8_0s1_0s2)
      (Host.shli (Host.slice S3584x8 ![0, 1] ![1, 2] (extui 32 l natLt_16_32) slicesBy_S3584x16_S3584x8_0s1_1s2)
        (broadcastInDim S3584x8 ![] bcast_S_S3584x8 (constantI S_ 32 16#32)))) transposes_S3584x8_S8x3584_1_0

theorem V1_v0 : V1 m ρ c main_v0 = shapeCast S1536x18944 (xArg m c) shapeCasts_S4x384x18944_S1536x18944 := by
  show StableHlo.after hostOps0 (W0 m ρ c) (Proc.devRef .tc main_v0) = _
  after_results
  rfl

theorem V1_v7 : V1 m ρ c main_v7 = tabOf (lArg m c) := by
  show StableHlo.after hostOps0 (W0 m ρ c) (Proc.devRef .tc main_v7) = _
  after_results
  rfl

theorem V1_arg1 : V1 m ρ c main_arg1 = cArg m c := W1_args m ρ c main_arg1 (by decide)

theorem V3_v0 : V3 m ρ c main_v0 = shapeCast S1536x18944 (xArg m c) shapeCasts_S4x384x18944_S1536x18944 :=
  ((W3_of m ρ c main_v0 (by decide)).trans (W2_of m ρ c main_v0 (by decide))).trans (V1_v0 m ρ c)

theorem V3_v8 : V3 m ρ c main_v8 = denseOf (V1 m ρ) c :=
  (W3_of m ρ c main_v8 (by decide)).trans ((W2_arr m ρ c 3).trans (final0 (V1 m ρ) c))

theorem V3_v9 : V3 m ρ c main_v9 = shapeCast S1184x28x8x128 (sArg m c) shapeCasts_S1184x28672_S1184x28x8x128 := by
  have h : W2 m ρ c (Proc.devRef .tc main_arg3) = sArg m c := W2_args m ρ c main_arg3 (by decide)
  show StableHlo.after hostOps1 (W2 m ρ c) (Proc.devRef .tc main_v9) = _
  after_results
  rw [h]
  rfl

theorem W5_v11 : W5 m ρ c (Proc.devRef .tc main_v11) = shapeCast S4x384x3584 (sumOf (V3 m ρ) c) shapeCasts_S1536x3584_S4x384x3584 := by
  have h : W4 m ρ c (Proc.devRef .tc main_v10_0) = sumOf (V3 m ρ) c := (W4_arr m ρ c 3).trans (final1_3 (V3 m ρ) c)
  show StableHlo.after hostOps2 (W4 m ρ c) (Proc.devRef .tc main_v11) = _
  after_results
  rw [h]
  rfl

theorem W5_v12 : W5 m ρ c (Proc.devRef .tc main_v12) = shapeCast S4x384x3584 (sparseOf (V3 m ρ) c) shapeCasts_S1536x3584_S4x384x3584 := by
  have h : W4 m ρ c (Proc.devRef .tc main_v10_1) = sparseOf (V3 m ρ) c := (W4_arr m ρ c 4).trans (final1_4 (V3 m ρ) c)
  show StableHlo.after hostOps2 (W4 m ρ c) (Proc.devRef .tc main_v12) = _
  after_results
  rw [h]
  rfl

end Cert.KernelIdeal.Value
-- ==== Proof.Equation.lean ====
module

public import proofs.«01_k».proof.Proof.RefValue
public import proofs.«01_k».proof.Proof.HostValue

@[expose] public section
set_option maxRecDepth 16384
noncomputable section
open Idealize.ShloMosaic Idealize.ShloMosaic.TcCoe Idealize.SL.Sem
namespace Cert.KernelIdeal.Value
open Cert.KernelIdeal Cert.KernelIdeal.Gen
open Cert.ReferenceIdeal.Value (lutV nib_lt16)

/-- A sum over `2 n` terms is the sum over its even terms and over its odd ones. -/
theorem sum_even_odd (f : ℕ → EReal) : ∀ n : ℕ, ∑ k ∈ Finset.range (2 * n), f k
    = (∑ r ∈ Finset.range n, f (2 * r)) + ∑ r ∈ Finset.range n, f (2 * r + 1)
  | 0 => by simp
  | n + 1 => by
    rw [show 2 * (n + 1) = 2 * n + 1 + 1 by ring, Finset.sum_range_succ, Finset.sum_range_succ, sum_even_odd f n,
      Finset.sum_range_succ, Finset.sum_range_succ]
    abel

/-- The two halves of a table word. -/
theorem pair_half (a b : BitVec 16) (h : ℕ) (hh : h < 2) :
    (IntOp.ori (a.setWidth 32) (IntOp.shli .host (b.setWidth 32) 16#32)).extractLsb' (16 * h) 16 = if h = 0 then a else b := by
  apply BitVec.eq_of_getLsbD_eq
  intro i hlt
  show (((a.setWidth 32) ||| ((b.setWidth 32) <<< 16)).extractLsb' (16 * h) 16).getLsbD i = _
  interval_cases h <;> interval_cases i <;> simp [BitVec.getLsbD_extractLsb']

/-- A word of the table the host builds. -/
theorem tabOf_apply (l : IVec S3584x16 16) (q : Fin 8) (n : Fin 3584) :
    tabOf l (ix2 q n) = IntOp.ori ((l (ix2 n ⟨2 * q.val, by omega⟩)).setWidth 32)
      (IntOp.shli .host ((l (ix2 n ⟨2 * q.val + 1, by omega⟩)).setWidth 32) 16#32) := by
  unfold tabOf
  rw [transpose_apply [1, 0] _ transposes_S3584x8_S8x3584_1_0 (ix2 q n) (ix2 n q) (fun b => match b with | ⟨0, _⟩ => rfl | ⟨1, _⟩ => rfl)]
  have e0 : ∀ (y : IVec S3584x16 32), Host.slice S3584x8 ![0, 0] ![1, 2] y slicesBy_S3584x16_S3584x8_0s1_0s2 (ix2 n q) = y (ix2 n ⟨2 * q.val, by omega⟩) :=
    fun y => congrArg y (funext fun a => match a with
      | ⟨0, _⟩ => Fin.ext (by show 0 + 1 * n.val = n.val; omega)
      | ⟨1, _⟩ => Fin.ext (by show 0 + 2 * q.val = 2 * q.val; omega))
  have e1 : ∀ (y : IVec S3584x16 32), Host.slice S3584x8 ![0, 1] ![1, 2] y slicesBy_S3584x16_S3584x8_0s1_1s2 (ix2 n q) = y (ix2 n ⟨2 * q.val + 1, by omega⟩) :=
    fun y => congrArg y (funext fun a => match a with
      | ⟨0, _⟩ => Fin.ext (by show 0 + 1 * n.val = n.val; omega)
      | ⟨1, _⟩ => Fin.ext (by show 1 + 2 * q.val = 2 * q.val + 1; omega))
  exact congrArg₂ IntOp.ori (e0 _) (congrArg (IntOp.shli .host · 16#32) (e1 _))

/-- The weight a code names out of that table is the codebook's entry of the code. -/
theorem wbits_tab (l : IVec S3584x16 16) (c : BitVec 8) (p : ℕ) (n : Fin 3584) :
    Ideal.ofBits .bf16 (wbits c p (fun q => tabOf l (ix2 q n))) = lutV l n (nib c p) := by
  have hk := nib_lt16 c p
  unfold wbits lutV
  rw [dif_pos hk]
  refine congrArg (Ideal.ofBits .bf16) ?_
  dsimp only
  rw [tabOf_apply, pair_half _ _ _ (Nat.mod_lt _ (by decide))]
  split
  · exact congrArg l (congrArg (ix2 n) (Fin.ext (by dsimp only; omega)))
  · exact congrArg l (congrArg (ix2 n) (Fin.ext (by dsimp only; omega)))

/-- The row of the flattened arrays that batch `b`, position `s` is. -/
def row (b : Fin 4) (s : Fin 384) : Fin 1536 := ⟨b.val * 384 + s.val, by omega⟩

variable (b : Fin 4) (s : Fin 384)

theorem cast_out {α : Type} (f : S1536x3584.Idx → α) (n : Fin 3584) :
    shapeCast S4x384x3584 f shapeCasts_S1536x3584_S4x384x3584 (ix3 b s n) = f (ix2 (row b s) n) :=
  shapeCast_apply f _ _ _ (by rw [Shape.rowMajor_val_two, Shape.rowMajor_val_three]; rfl)

theorem cast_in {α : Type} (f : S4x384x18944.Idx → α) (k : Fin 18944) :
    shapeCast S1536x18944 f shapeCasts_S4x384x18944_S1536x18944 (ix2 (row b s) k) = f (ix3 b s k) :=
  shapeCast_apply f _ _ _ (by rw [Shape.rowMajor_val_two, Shape.rowMajor_val_three]; rfl)

/-- A term of a product, the row read in the unflattened `x`. -/
theorem term_eq (x : Vec Ideal S4x384x18944 .bf16) (W : Fin 18944 → EReal) (k : ℕ) (hk : k < 18944) :
    term (shapeCast S1536x18944 x shapeCasts_S4x384x18944_S1536x18944) W (row b s) k = x (ix3 b s ⟨k, hk⟩) * W ⟨k, hk⟩ := by
  unfold term
  rw [dif_pos hk]
  exact congrArg (· * W ⟨k, hk⟩) (cast_in b s x ⟨k, hk⟩)

variable (m : (ℓ : Loc nD τ sig) → Buf (Elt Ideal) ℓ) (ρ : Dev nD → PrngReg) (c : Dev nD) (n : Fin 3584)

/-- The kernel's sparse product is the plain one. -/
theorem sparse_eq : sparseOf (V3 m ρ) c (ix2 (row b s) n)
    = ∑ k : Fin 18944, xArg m c (ix3 b s k) * wS (Cert.ReferenceIdeal.Read.val_main_v193 (F := Ideal) (sArg m c)) n k := by
  unfold sparseOf termS
  rw [V3_v0, V3_v9, Finset.sum_range]
  exact Finset.sum_congr rfl fun k _ => term_eq b s (xArg m c) _ k.val k.isLt

/-- The kernel's dense product is the reference's two, even and odd columns. -/
theorem dense_eq : denseOf (V1 m ρ) c (ix2 (row b s) n)
    = (∑ r : Fin 9472, xArg m c (ix3 b s ⟨2 * r.val, by omega⟩) * lutV (lArg m c) n (nib (cArg m c (ix2 r n)) 0))
      + ∑ r : Fin 9472, xArg m c (ix3 b s ⟨2 * r.val + 1, by omega⟩) * lutV (lArg m c) n (nib (cArg m c (ix2 r n)) 1) := by
  unfold denseOf termD
  rw [V1_v0, V1_v7, V1_arg1]
  refine (sum_even_odd _ 9472).trans (congrArg₂ (· + ·) ?_ ?_)
  · rw [Finset.sum_range]
    refine Finset.sum_congr rfl fun r _ => (term_eq b s (xArg m c) _ (2 * r.val) (by omega)).trans (congrArg (_ * ·) ?_)
    unfold wD
    dsimp only
    rw [show (2 * r.val) % 2 = 0 by omega]
    refine (wbits_tab _ _ 0 n).trans (congrArg (fun z => lutV (lArg m c) n (nib (cArg m c (ix2 z n)) 0)) (Fin.ext ?_))
    dsimp only; omega
  · rw [Finset.sum_range]
    refine Finset.sum_congr rfl fun r _ => (term_eq b s (xArg m c) _ (2 * r.val + 1) (by omega)).trans (congrArg (_ * ·) ?_)
    unfold wD
    dsimp only
    rw [show (2 * r.val + 1) % 2 = 1 by omega]
    refine (wbits_tab _ _ 1 n).trans (congrArg (fun z => lutV (lArg m c) n (nib (cArg m c (ix2 z n)) 1)) (Fin.ext ?_))
    dsimp only; omega

theorem idx3 (y : S4x384x3584.Idx) : ∃ (b : Fin 4) (s : Fin 384) (n : Fin 3584), y = ix3 b s n :=
  ⟨y 0, y 1, y 2, by funext a; match a with | ⟨0, _⟩ => rfl | ⟨1, _⟩ => rfl | ⟨2, _⟩ => rfl⟩

/-- The kernel's second result is the reference's sparse product. -/
theorem res_sparse : W5 m ρ c (Proc.devRef .tc main_v12) = Cert.ReferenceIdeal.Read.val_main_v199 (F := Ideal) (xArg m c) (sArg m c) := by
  refine (W5_v12 m ρ c).trans (funext fun y => ?_)
  obtain ⟨b, s, n, rfl⟩ := idx3 y
  exact (cast_out b s _ n).trans ((sparse_eq b s m ρ c n).trans (Cert.ReferenceIdeal.Value.ref_sparse n (xArg m c) (sArg m c) b s).symm)

/-- The kernel's first result is the reference's sum. -/
theorem res_y : W5 m ρ c (Proc.devRef .tc main_v11)
    = Cert.ReferenceIdeal.Read.val_main_v201 (F := Ideal) (xArg m c) (cArg m c) (lArg m c) (sArg m c) := by
  refine (W5_v11 m ρ c).trans (funext fun y => ?_)
  obtain ⟨b, s, n, rfl⟩ := idx3 y
  refine (cast_out b s _ n).trans (Eq.trans ?_ (Cert.ReferenceIdeal.Value.ref_y (cArg m c) (lArg m c) n (xArg m c) (sArg m c) b s).symm)
  unfold sumOf
  rw [V3_v8]
  exact congrArg₂ (@HAdd.hAdd EReal EReal EReal _) (dense_eq b s m ρ c n) (sparse_eq b s m ρ c n)

end Cert.KernelIdeal.Value
-- ==== Proof.lean ====
module

public import proofs.«01_k».proof.Defs
public import proofs.«01_k».proof.Proof.Gen.Kernel.Frame
public import proofs.«01_k».proof.Proof.KernelRun
public import proofs.«01_k».proof.Proof.Equation
public import Idealize.ShloMosaic.Lib.Quiescent

@[expose] public section

noncomputable section

namespace Cert.Proof

open Idealize.ShloMosaic Idealize.SL.Sem

/-- The compiled program ends on every execution, its arguments unchanged and its counters at zero. -/
theorem frame_p : Cert.quiescent_Kernel (hKernel := Cert.Kernel.Gen.facts) := fun m ρ _ => Cert.Kernel.Gen.frame m ρ

/-- So does its idealization. -/
theorem frame_pi : Cert.quiescent_KernelIdeal (hKernelIdeal := Cert.KernelIdeal.Gen.facts) := fun m ρ _ => Cert.KernelIdeal.Gen.frame m ρ

/-- So does the reference, which has no semaphore. -/
theorem frame_ri : Cert.quiescent_ReferenceIdeal (hReferenceIdeal := Cert.ReferenceIdeal.Gen.facts) := fun m ρ _ =>
  (θ_run (Cert.ReferenceIdeal.defs (F := Ideal)) _ _).mono
    (fun r h => ⟨fun c => (h c).2.2, Idealize.ShloMosaic.sem_eq_zero_of_no_sems (by decide) r.2⟩)
    (Cert.ReferenceIdeal.Value.run (F := Ideal) m ρ)

/-- Over the reals the kernel's two results are the reference's. -/
theorem algebraic : Cert.algebraic_KernelIdeal_ReferenceIdeal (hKernelIdeal := Cert.KernelIdeal.Gen.facts)
    (hReferenceIdeal := Cert.ReferenceIdeal.Gen.facts) := fun m ρ m' ρ' _ hargs =>
  ⟨fun c => Cert.KernelIdeal.Gen.W5 m ρ c (Proc.devRef .tc Cert.KernelIdeal.main_v11),
   fun c => Cert.KernelIdeal.Gen.W5 m ρ c (Proc.devRef .tc Cert.KernelIdeal.main_v12),
   (θ_run (Cert.KernelIdeal.defs (F := Ideal)) _ _).mono (fun _ h => h.1) (Cert.KernelIdeal.Value.run (F := Ideal) m ρ),
   (θ_run (Cert.ReferenceIdeal.defs (F := Ideal)) _ _).mono (fun r h c => by
      obtain ⟨h0, h1, h2, h3⟩ := hargs c
      have e1 := (h c).1.trans (Cert.ReferenceIdeal.Read.val_main_v201_eq (F := Ideal) (StableHlo.launchContents m' c))
      have e2 := (h c).2.1.trans (Cert.ReferenceIdeal.Read.val_main_v199_eq (F := Ideal) (StableHlo.launchContents m' c))
      refine ⟨e1.trans ?_, e2.trans ?_, (h c).2.2⟩
      · refine Eq.trans ?_ (Cert.KernelIdeal.Value.res_y m ρ c).symm
        show Cert.ReferenceIdeal.Read.val_main_v201 (F := Ideal) (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3)) = _
        rw [h0, h1, h2, h3]
      · refine Eq.trans ?_ (Cert.KernelIdeal.Value.res_sparse m ρ c).symm
        show Cert.ReferenceIdeal.Read.val_main_v199 (F := Ideal) (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg3)) = _
        rw [h0, h3])
    (Cert.ReferenceIdeal.Value.run (F := Ideal) m' ρ')⟩

/-- The certificate: the side conditions, the three frames, the idealization, the equation. -/
theorem claim : Cert.Claim :=
  ⟨Cert.Kernel.Gen.facts, Cert.KernelIdeal.Gen.facts, Cert.ReferenceIdeal.Gen.facts, frame_p, frame_pi, frame_ri, trivial, algebraic⟩

end Cert.Proof

end
